-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "inv_t" .f32 0x41649249#32 ((134217728 / 9395241 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x128 : Shape := ⟨3, ![8, 512, 128]⟩
abbrev S1x1x1 : Shape := ⟨3, ![1, 1, 1]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩
abbrev S128x1024 : Shape := ⟨2, ![128, 1024]⟩
abbrev S1024x1024 : Shape := ⟨2, ![1024, 1024]⟩
abbrev S512x512 : Shape := ⟨2, ![512, 512]⟩
abbrev S1024 : Shape := ⟨1, ![1024]⟩
abbrev S1024x1 : Shape := ⟨2, ![1024, 1]⟩
abbrev S1x512x1 : Shape := ⟨3, ![1, 512, 1]⟩
abbrev S1 : Shape := ⟨1, ![1]⟩
abbrev S_ : Shape := ⟨0, ![]⟩

abbrev nBuf : Space → Nat
  | .hbm => 9
  | .vmem => 3
  | .smem => 0
  | _ => 0

abbrev bufTy : (tb : Table) → Fin (tcTables nBuf tb) → BufTy
  | .hbm, ⟨0, _⟩ => ⟨S8x512x128, .f32⟩
  | .hbm, ⟨1, _⟩ => ⟨S8x512x128, .f32⟩
  | .hbm, ⟨2, _⟩ => ⟨S1x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8x512x128, .f32⟩
  | .local _ .vmem, ⟨1, _⟩ => ⟨S8x512x128, .f32⟩
  | .local _ .vmem, ⟨2, _⟩ => ⟨S1x1x1, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_t" => some ((134217728 / 9395241 : ℝ) : EReal)
  | "third" => some ((1 / 3 : ℝ) : EReal)
  | _ => none
-- ==== ReferenceIdeal.lean ====
abbrev S8x512x128 : Shape := ⟨3, ![8, 512, 128]⟩
abbrev S_ : Shape := ⟨0, ![]⟩
abbrev S8x512 : Shape := ⟨2, ![8, 512]⟩
abbrev S8x512x1 : Shape := ⟨3, ![8, 512, 1]⟩
abbrev S8x512x512 : Shape := ⟨3, ![8, 512, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S8x1024x128 : Shape := ⟨3, ![8, 1024, 128]⟩
abbrev S8x1024 : Shape := ⟨2, ![8, 1024]⟩
abbrev S8x1024x1 : Shape := ⟨3, ![8, 1024, 1]⟩
abbrev S8x1024x1024 : Shape := ⟨3, ![8, 1024, 1024]⟩
abbrev S1024 : Shape := ⟨1, ![1024]⟩
abbrev S1024x1 : Shape := ⟨2, ![1024, 1]⟩
abbrev S1024x2 : Shape := ⟨2, ![1024, 2]⟩
abbrev S512x2 : Shape := ⟨2, ![512, 2]⟩
abbrev S8x512x5 : Shape := ⟨3, ![8, 512, 5]⟩
abbrev S1x512x1 : Shape := ⟨3, ![1, 512, 1]⟩
abbrev S8x512x5x1 : Shape := ⟨4, ![8, 512, 5, 1]⟩
abbrev S1 : Shape := ⟨1, ![1]⟩
abbrev S1x1x1x1 : Shape := ⟨4, ![1, 1, 1, 1]⟩

abbrev nBuf : Space → Nat
  | .hbm => 267
  | .vmem => 0
  | .smem => 0
  | _ => 0

abbrev hbmTy0_0 (i : Nat) : BufTy := match i % 128 with
  | 0 => ⟨S8x512x128, .f32⟩
  | 1 => ⟨S8x512x128, .f32⟩
  | 2 => ⟨S8x512x128, .f32⟩
  | 3 => ⟨S_, .f32⟩
  | 4 => ⟨S8x512, .f32⟩
  | 5 => ⟨S8x512x1, .f32⟩
  | 6 => ⟨S8x512x1, .f32⟩
  | 7 => ⟨S_, .f32⟩
  | 8 => ⟨S8x512x1, .f32⟩
  | 9 => ⟨S8x512x1, .f32⟩
  | 10 => ⟨S8x512x128, .f32⟩
  | 11 => ⟨S8x512x128, .f32⟩
  | 12 => ⟨S8x512x512, .f32⟩
  | 13 => ⟨S_, .f32⟩
  | 14 => ⟨S8x512, .f32⟩
  | 15 => ⟨S_, .f32⟩
  | 16 => ⟨S8x512, .f32⟩
  | 17 => ⟨S8x512, .f32⟩
  | 18 => ⟨S8x512x1, .f32⟩
  | 19 => ⟨S8x512x512, .f32⟩
  | 20 => ⟨S8x512x512, .f32⟩
  | 21 => ⟨S8x512x512, .f32⟩
  | 22 => ⟨S_, .f32⟩
  | 23 => ⟨S8x512, .f32⟩
  | 24 => ⟨S8x512x1, .f32⟩
  | 25 => ⟨S8x512x512, .f32⟩
  | 26 => ⟨S8x512x512, .f32⟩
  | 27 => ⟨S_, .f32⟩
  | 28 => ⟨S8x512x512, .f32⟩
  | 29 => ⟨S8x512x512, .f32⟩
  | 30 => ⟨S8x512x512, .f32⟩
  | 31 => ⟨S8x512x512, .f32⟩
  | 32 => ⟨S8x512x512, .f32⟩
  | 33 => ⟨S8x512x512, .f32⟩
  | 34 => ⟨S8x512x512, .f32⟩
  | 35 => ⟨S_, .f32⟩
  | 36 => ⟨S8x512x512, .f32⟩
  | 37 => ⟨S8x512x512, .f32⟩
  | 38 => ⟨S8x512x128, .f32⟩
  | 39 => ⟨S_, .f32⟩
  | 40 => ⟨S8x512, .f32⟩
  | 41 => ⟨S8x512x1, .f32⟩
  | 42 => ⟨S8x512x1, .f32⟩
  | 43 => ⟨S_, .f32⟩
  | 44 => ⟨S8x512x1, .f32⟩
  | 45 => ⟨S8x512x1, .f32⟩
  | 46 => ⟨S8x512x128, .f32⟩
  | 47 => ⟨S8x512x128, .f32⟩
  | 48 => ⟨S8x512x512, .f32⟩
  | 49 => ⟨S_, .f32⟩
  | 50 => ⟨S8x512, .f32⟩
  | 51 => ⟨S_, .f32⟩
  | 52 => ⟨S8x512, .f32⟩
  | 53 => ⟨S8x512, .f32⟩
  | 54 => ⟨S8x512x1, .f32⟩
  | 55 => ⟨S8x512x512, .f32⟩
  | 56 => ⟨S8x512x512, .f32⟩
  | 57 => ⟨S8x512x512, .f32⟩
  | 58 => ⟨S_, .f32⟩
  | 59 => ⟨S8x512, .f32⟩
  | 60 => ⟨S8x512x1, .f32⟩
  | 61 => ⟨S8x512x512, .f32⟩
  | 62 => ⟨S8x512x512, .f32⟩
  | 63 => ⟨S_, .f32⟩
  | 64 => ⟨S8x512x512, .f32⟩
  | 65 => ⟨S8x512x512, .f32⟩
  | 66 => ⟨S8x512x512, .f32⟩
  | 67 => ⟨S8x512x512, .f32⟩
  | 68 => ⟨S8x512x512, .f32⟩
  | 69 => ⟨S8x512x512, .f32⟩
  | 70 => ⟨S8x512x512, .f32⟩
  | 71 => ⟨S_, .f32⟩
  | 72 => ⟨S8x512x512, .f32⟩
  | 73 => ⟨S8x512x512, .f32⟩
  | 74 => ⟨S512, .f32⟩
  | 75 => ⟨S512x1, .f32⟩
  | 76 => ⟨S1x512, .f32⟩
  | 77 => ⟨S512x512, .f32⟩
  | 78 => ⟨S512x512, .f32⟩
  | 79 => ⟨S512x512, .f32⟩
  | 80 => ⟨S512x512, .f32⟩
  | 81 => ⟨S512x512, .f32⟩
  | 82 => ⟨S512x512, .f32⟩
  | 83 => ⟨S_, .f32⟩
  | 84 => ⟨S512x512, .f32⟩
  | 85 => ⟨S512x512, .f32⟩
  | 86 => ⟨S512x512, .f32⟩
  | 87 => ⟨S1x512x512, .f32⟩
  | 88 => ⟨S8x1024x128, .f32⟩
  | 89 => ⟨S8x1024x128, .f32⟩
  | 90 => ⟨S_, .f32⟩
  | 91 => ⟨S8x1024, .f32⟩
  | 92 => ⟨S8x1024x1, .f32⟩
  | 93 => ⟨S8x1024x1, .f32⟩
  | 94 => ⟨S_, .f32⟩
  | 95 => ⟨S8x1024x1, .f32⟩
  | 96 => ⟨S8x1024x1, .f32⟩
  | 97 => ⟨S8x1024x128, .f32⟩
  | 98 => ⟨S8x1024x128, .f32⟩
  | 99 => ⟨S8x1024x1024, .f32⟩
  | 100 => ⟨S_, .f32⟩
  | 101 => ⟨S8x1024x1024, .f32⟩
  | 102 => ⟨S8x1024x1024, .f32⟩
  | 103 => ⟨S8x1024x1024, .f32⟩
  | 104 => ⟨S1024, .i32⟩
  | 105 => ⟨S1024, .i32⟩
  | 106 => ⟨S_, .i32⟩
  | 107 => ⟨S1024, .i32⟩
  | 108 => ⟨S1024, .i1⟩
  | 109 => ⟨S_, .i32⟩
  | 110 => ⟨S1024, .i32⟩
  | 111 => ⟨S1024, .i32⟩
  | 112 => ⟨S1024, .i32⟩
  | 113 => ⟨S_, .i32⟩
  | 114 => ⟨S1024, .i32⟩
  | 115 => ⟨S1024, .i1⟩
  | 116 => ⟨S_, .i32⟩
  | 117 => ⟨S1024, .i32⟩
  | 118 => ⟨S1024, .i32⟩
  | 119 => ⟨S1024, .i32⟩
  | 120 => ⟨S1024x1, .i32⟩
  | 121 => ⟨S1024x1, .i32⟩
  | 122 => ⟨S1024x2, .i32⟩
  | 123 => ⟨S8x1024, .f32⟩
  | 124 => ⟨S_, .f32⟩
  | 125 => ⟨S8x1024, .f32⟩
  | 126 => ⟨S8x1024, .f32⟩
  | 127 => ⟨S_, .f32⟩
  | _ => ⟨S8x512x128, .f32⟩

abbrev hbmTy0_1 (i : Nat) : BufTy := match i % 128 with
  | 0 => ⟨S1x512x512, .f32⟩
  | 1 => ⟨S1x512x512, .f32⟩
  | 2 => ⟨S_, .f32⟩
  | 3 => ⟨S8x512x512, .f32⟩
  | 4 => ⟨S8x512x512, .f32⟩
  | 5 => ⟨S8x512x512, .f32⟩
  | 6 => ⟨S8x512x512, .f32⟩
  | 7 => ⟨S_, .f32⟩
  | 8 => ⟨S1x512x512, .f32⟩
  | 9 => ⟨S1x512x512, .f32⟩
  | 10 => ⟨S_, .f32⟩
  | 11 => ⟨S8x512x512, .f32⟩
  | 12 => ⟨S8x512x512, .f32⟩
  | 13 => ⟨S8x512x512, .f32⟩
  | 14 => ⟨S8x512x512, .f32⟩
  | 15 => ⟨S8x512x512, .f32⟩
  | 16 => ⟨S8x512x512, .f32⟩
  | 17 => ⟨S512, .i32⟩
  | 18 => ⟨S512, .i32⟩
  | 19 => ⟨S_, .i32⟩
  | 20 => ⟨S512, .i32⟩
  | 21 => ⟨S512, .i1⟩
  | 22 => ⟨S_, .i32⟩
  | 23 => ⟨S512, .i32⟩
  | 24 => ⟨S512, .i32⟩
  | 25 => ⟨S512, .i32⟩
  | 26 => ⟨S_, .i32⟩
  | 27 => ⟨S512, .i32⟩
  | 28 => ⟨S512, .i1⟩
  | 29 => ⟨S_, .i32⟩
  | 30 => ⟨S512, .i32⟩
  | 31 => ⟨S512, .i32⟩
  | 32 => ⟨S512, .i32⟩
  | 33 => ⟨S512x1, .i32⟩
  | 34 => ⟨S512x1, .i32⟩
  | 35 => ⟨S512x2, .i32⟩
  | 36 => ⟨S8x512, .f32⟩
  | 37 => ⟨S512, .i32⟩
  | 38 => ⟨S512, .i32⟩
  | 39 => ⟨S_, .i32⟩
  | 40 => ⟨S512, .i32⟩
  | 41 => ⟨S512, .i1⟩
  | 42 => ⟨S_, .i32⟩
  | 43 => ⟨S512, .i32⟩
  | 44 => ⟨S512, .i32⟩
  | 45 => ⟨S512, .i32⟩
  | 46 => ⟨S_, .i32⟩
  | 47 => ⟨S512, .i32⟩
  | 48 => ⟨S512, .i1⟩
  | 49 => ⟨S_, .i32⟩
  | 50 => ⟨S512, .i32⟩
  | 51 => ⟨S512, .i32⟩
  | 52 => ⟨S512, .i32⟩
  | 53 => ⟨S512x1, .i32⟩
  | 54 => ⟨S512x1, .i32⟩
  | 55 => ⟨S512x2, .i32⟩
  | 56 => ⟨S8x512, .f32⟩
  | 57 => ⟨S8x512x5, .f32⟩
  | 58 => ⟨S8x512x5, .i32⟩
  | 59 => ⟨S8x512x5, .f32⟩
  | 60 => ⟨S8x512x5, .i32⟩
  | 61 => ⟨S512, .i32⟩
  | 62 => ⟨S1x512x1, .i32⟩
  | 63 => ⟨S_, .i32⟩
  | 64 => ⟨S8x512x5, .i32⟩
  | 65 => ⟨S8x512x5, .i1⟩
  | 66 => ⟨S_, .i32⟩
  | 67 => ⟨S8x512x5, .i32⟩
  | 68 => ⟨S8x512x5, .i32⟩
  | 69 => ⟨S8x512x5, .i32⟩
  | 70 => ⟨S8x512x5x1, .i32⟩
  | 71 => ⟨S1, .i32⟩
  | 72 => ⟨S_, .i32⟩
  | 73 => ⟨S8x512x5x1, .i32⟩
  | 74 => ⟨S8x512x5x1, .i1⟩
  | 75 => ⟨S1x1x1x1, .i32⟩
  | 76 => ⟨S8x512x5x1, .i32⟩
  | 77 => ⟨S8x512x5x1, .i1⟩
  | 78 => ⟨S8x512x5x1, .i1⟩
  | 79 => ⟨S_, .i1⟩
  | 80 => ⟨S8x512x5, .i1⟩
  | 81 => ⟨S8x512x5, .f32⟩
  | 82 => ⟨S_, .f32⟩
  | 83 => ⟨S8x512x5, .f32⟩
  | 84 => ⟨S8x512x5, .f32⟩
  | 85 => ⟨S8x512x5, .i32⟩
  | 86 => ⟨S8x512x5, .i1⟩
  | 87 => ⟨S8x512x5, .f32⟩
  | 88 => ⟨S8x512x5, .f32⟩
  | 89 => ⟨S8x512x5, .f32⟩
  | 90 => ⟨S_, .f32⟩
  | 91 => ⟨S8x512, .f32⟩
  | 92 => ⟨S8x512, .f32⟩
  | 93 => ⟨S_, .i32⟩
  | 94 => ⟨S8x512x5, .i32⟩
  | 95 => ⟨S8x512x5, .i1⟩
  | 96 => ⟨S_, .i32⟩
  | 97 => ⟨S8x512x5, .i32⟩
  | 98 => ⟨S8x512x5, .i32⟩
  | 99 => ⟨S8x512x5, .i32⟩
  | 100 => ⟨S8x512x5x1, .i32⟩
  | 101 => ⟨S1, .i32⟩
  | 102 => ⟨S_, .i32⟩
  | 103 => ⟨S8x512x5x1, .i32⟩
  | 104 => ⟨S8x512x5x1, .i1⟩
  | 105 => ⟨S1x1x1x1, .i32⟩
  | 106 => ⟨S8x512x5x1, .i32⟩
  | 107 => ⟨S8x512x5x1, .i1⟩
  | 108 => ⟨S8x512x5x1, .i1⟩
  | 109 => ⟨S_, .i1⟩
  | 110 => ⟨S8x512x5, .i1⟩
  | 111 => ⟨S8x512x5, .f32⟩
  | 112 => ⟨S_, .f32⟩
  | 113 => ⟨S8x512x5, .f32⟩
  | 114 => ⟨S8x512x5, .f32⟩
  | 115 => ⟨S8x512x5, .i32⟩
  | 116 => ⟨S8x512x5, .i1⟩
  | 117 => ⟨S8x512x5, .f32⟩
  | 118 => ⟨S8x512x5, .f32⟩
  | 119 => ⟨S8x512x5, .f32⟩
  | 120 => ⟨S_, .f32⟩
  | 121 => ⟨S8x512, .f32⟩
  | 122 => ⟨S8x512, .f32⟩
  | 123 => ⟨S8x1024, .f32⟩
  | 124 => ⟨S_, .f32⟩
  | 125 => ⟨S8x1024, .f32⟩
  | 126 => ⟨S8x1024, .f32⟩
  | 127 => ⟨S8x1024, .f32⟩
  | _ => ⟨S8x512x128, .f32⟩

abbrev hbmTy0_2 (i : Nat) : BufTy := match i % 128 with
  | 0 => ⟨S_, .f32⟩
  | 1 => ⟨S8x1024, .f32⟩
  | 2 => ⟨S8x1024, .f32⟩
  | 3 => ⟨S8x1024, .f32⟩
  | 4 => ⟨S8x1024, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | _ => ⟨S8x512x128, .f32⟩

abbrev hbmTy (i : Nat) : BufTy := match i / 128 with
  | 0 => hbmTy0_0 i
  | 1 => hbmTy0_1 i
  | 2 => hbmTy0_2 i
  | _ => ⟨S8x512x128, .f32⟩

abbrev bufTy : (tb : Table) → Fin (tcTables nBuf tb) → BufTy
  | .hbm, ⟨i, _⟩ => hbmTy i
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call3_v0 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_call4_v0 : Ref sig .tc := ⟨.hbm, 38, rfl⟩
abbrev main_call4_cst : Ref sig .tc := ⟨.hbm, 39, rfl⟩
abbrev main_call4_v1 : Ref sig .tc := ⟨.hbm, 40, rfl⟩
abbrev main_call4_v2 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call7_v0 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call8_v0 : Ref sig .tc := ⟨.hbm, 89, rfl⟩
abbrev main_call8_cst : Ref sig .tc := ⟨.hbm, 90, rfl⟩
abbrev main_call8_v1 : Ref sig .tc := ⟨.hbm, 91, rfl⟩
abbrev main_call8_v2 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call9_v0 : Ref sig .tc := ⟨.hbm, 104, rfl⟩
abbrev main_call9_v1 : Ref sig .tc := ⟨.hbm, 105, rfl⟩
abbrev main_call9_c : Ref sig .tc := ⟨.hbm, 106, rfl⟩
abbrev main_call9_v2 : Ref sig .tc := ⟨.hbm, 107, rfl⟩
abbrev main_call9_v3 : Ref sig .tc := ⟨.hbm, 108, rfl⟩
abbrev main_call9_c_0 : Ref sig .tc := ⟨.hbm, 109, rfl⟩
abbrev main_call9_v4 : Ref sig .tc := ⟨.hbm, 110, rfl⟩
abbrev main_call9_v5 : Ref sig .tc := ⟨.hbm, 111, rfl⟩
abbrev main_call9_v6 : Ref sig .tc := ⟨.hbm, 112, rfl⟩
abbrev main_call9_c_1 : Ref sig .tc := ⟨.hbm, 113, rfl⟩
abbrev main_call9_v7 : Ref sig .tc := ⟨.hbm, 114, rfl⟩
abbrev main_call9_v8 : Ref sig .tc := ⟨.hbm, 115, rfl⟩
abbrev main_call9_c_2 : Ref sig .tc := ⟨.hbm, 116, rfl⟩
abbrev main_call9_v9 : Ref sig .tc := ⟨.hbm, 117, rfl⟩
abbrev main_call9_v10 : Ref sig .tc := ⟨.hbm, 118, rfl⟩
abbrev main_call9_v11 : Ref sig .tc := ⟨.hbm, 119, rfl⟩
abbrev main_call9_v12 : Ref sig .tc := ⟨.hbm, 120, rfl⟩
abbrev main_call9_v13 : Ref sig .tc := ⟨.hbm, 121, rfl⟩
abbrev main_call9_v14 : Ref sig .tc := ⟨.hbm, 122, rfl⟩
abbrev main_v75 : Ref sig .tc := ⟨.hbm, 123, rfl⟩
abbrev main_cst_14 : Ref sig .tc := ⟨.hbm, 124, rfl⟩
abbrev main_v76 : Ref sig .tc := ⟨.hbm, 125, rfl⟩
abbrev main_v77 : Ref sig .tc := ⟨.hbm, 126, rfl⟩
abbrev main_cst_15 : Ref sig .tc := ⟨.hbm, 127, rfl⟩
abbrev main_v78 : Ref sig .tc := ⟨.hbm, 128, rfl⟩
abbrev main_v79 : Ref sig .tc := ⟨.hbm, 129, rfl⟩
abbrev main_cst_16 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_17 : Ref sig .tc := ⟨.hbm, 135, rfl⟩
abbrev main_v84 : Ref sig .tc := ⟨.hbm, 136, rfl⟩
abbrev main_v85 : Ref sig .tc := ⟨.hbm, 137, rfl⟩
abbrev main_cst_18 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_call10_v0 : Ref sig .tc := ⟨.hbm, 145, rfl⟩
abbrev main_call10_v1 : Ref sig .tc := ⟨.hbm, 146, rfl⟩
abbrev main_call10_c : Ref sig .tc := ⟨.hbm, 147, rfl⟩
abbrev main_call10_v2 : Ref sig .tc := ⟨.hbm, 148, rfl⟩
abbrev main_call10_v3 : Ref sig .tc := ⟨.hbm, 149, rfl⟩
abbrev main_call10_c_0 : Ref sig .tc := ⟨.hbm, 150, rfl⟩
abbrev main_call10_v4 : Ref sig .tc := ⟨.hbm, 151, rfl⟩
abbrev main_call10_v5 : Ref sig .tc := ⟨.hbm, 152, rfl⟩
abbrev main_call10_v6 : Ref sig .tc := ⟨.hbm, 153, rfl⟩
abbrev main_call10_c_1 : Ref sig .tc := ⟨.hbm, 154, rfl⟩
abbrev main_call10_v7 : Ref sig .tc := ⟨.hbm, 155, rfl⟩
abbrev main_call10_v8 : Ref sig .tc := ⟨.hbm, 156, rfl⟩
abbrev main_call10_c_2 : Ref sig .tc := ⟨.hbm, 157, rfl⟩
abbrev main_call10_v9 : Ref sig .tc := ⟨.hbm, 158, rfl⟩
abbrev main_call10_v10 : Ref sig .tc := ⟨.hbm, 159, rfl⟩
abbrev main_call10_v11 : Ref sig .tc := ⟨.hbm, 160, rfl⟩
abbrev main_call10_v12 : Ref sig .tc := ⟨.hbm, 161, rfl⟩
abbrev main_call10_v13 : Ref sig .tc := ⟨.hbm, 162, rfl⟩
abbrev main_call10_v14 : Ref sig .tc := ⟨.hbm, 163, rfl⟩
abbrev main_v92 : Ref sig .tc := ⟨.hbm, 164, rfl⟩
abbrev main_call11_v0 : Ref sig .tc := ⟨.hbm, 165, rfl⟩
abbrev main_call11_v1 : Ref sig .tc := ⟨.hbm, 166, rfl⟩
abbrev main_call11_c : Ref sig .tc := ⟨.hbm, 167, rfl⟩
abbrev main_call11_v2 : Ref sig .tc := ⟨.hbm, 168, rfl⟩
abbrev main_call11_v3 : Ref sig .tc := ⟨.hbm, 169, rfl⟩
abbrev main_call11_c_0 : Ref sig .tc := ⟨.hbm, 170, rfl⟩
abbrev main_call11_v4 : Ref sig .tc := ⟨.hbm, 171, rfl⟩
abbrev main_call11_v5 : Ref sig .tc := ⟨.hbm, 172, rfl⟩
abbrev main_call11_v6 : Ref sig .tc := ⟨.hbm, 173, rfl⟩
abbrev main_call11_c_1 : Ref sig .tc := ⟨.hbm, 174, rfl⟩
abbrev main_call11_v7 : Ref sig .tc := ⟨.hbm, 175, rfl⟩
abbrev main_call11_v8 : Ref sig .tc := ⟨.hbm, 176, rfl⟩
abbrev main_call11_c_2 : Ref sig .tc := ⟨.hbm, 177, rfl⟩
abbrev main_call11_v9 : Ref sig .tc := ⟨.hbm, 178, rfl⟩
abbrev main_call11_v10 : Ref sig .tc := ⟨.hbm, 179, rfl⟩
abbrev main_call11_v11 : Ref sig .tc := ⟨.hbm, 180, rfl⟩
abbrev main_call11_v12 : Ref sig .tc := ⟨.hbm, 181, rfl⟩
abbrev main_call11_v13 : Ref sig .tc := ⟨.hbm, 182, rfl⟩
abbrev main_call11_v14 : Ref sig .tc := ⟨.hbm, 183, rfl⟩
abbrev main_v93 : Ref sig .tc := ⟨.hbm, 184, rfl⟩
abbrev main_values : Ref sig .tc := ⟨.hbm, 185, rfl⟩
abbrev main_indices : Ref sig .tc := ⟨.hbm, 186, rfl⟩
abbrev main_values_19 : Ref sig .tc := ⟨.hbm, 187, rfl⟩
abbrev main_indices_20 : Ref sig .tc := ⟨.hbm, 188, rfl⟩
abbrev main_v94 : Ref sig .tc := ⟨.hbm, 189, rfl⟩
abbrev main_v95 : Ref sig .tc := ⟨.hbm, 190, rfl⟩
abbrev main_call12_c : Ref sig .tc := ⟨.hbm, 191, rfl⟩
abbrev main_call12_v0 : Ref sig .tc := ⟨.hbm, 192, rfl⟩
abbrev main_call12_v1 : Ref sig .tc := ⟨.hbm, 193, rfl⟩
abbrev main_call12_c_0 : Ref sig .tc := ⟨.hbm, 194, rfl⟩
abbrev main_call12_v2 : Ref sig .tc := ⟨.hbm, 195, rfl⟩
abbrev main_call12_v3 : Ref sig .tc := ⟨.hbm, 196, rfl⟩
abbrev main_call12_v4 : Ref sig .tc := ⟨.hbm, 197, rfl⟩
abbrev main_call12_v5 : Ref sig .tc := ⟨.hbm, 198, rfl⟩
abbrev main_call12_c_1 : Ref sig .tc := ⟨.hbm, 199, rfl⟩
abbrev main_call12_c_2 : Ref sig .tc := ⟨.hbm, 200, rfl⟩
abbrev main_call12_v6 : Ref sig .tc := ⟨.hbm, 201, rfl⟩
abbrev main_call12_v7 : Ref sig .tc := ⟨.hbm, 202, rfl⟩
abbrev main_call12_v8 : Ref sig .tc := ⟨.hbm, 203, rfl⟩
abbrev main_call12_v9 : Ref sig .tc := ⟨.hbm, 204, rfl⟩
abbrev main_call12_v10 : Ref sig .tc := ⟨.hbm, 205, rfl⟩
abbrev main_call12_v11 : Ref sig .tc := ⟨.hbm, 206, rfl⟩
abbrev main_call12_c_3 : Ref sig .tc := ⟨.hbm, 207, rfl⟩
abbrev main_call12_v12 : Ref sig .tc := ⟨.hbm, 208, rfl⟩
abbrev main_call12_v13 : Ref sig .tc := ⟨.hbm, 209, rfl⟩
abbrev main_call12_cst : Ref sig .tc := ⟨.hbm, 210, rfl⟩
abbrev main_call12_v14 : Ref sig .tc := ⟨.hbm, 211, rfl⟩
abbrev main_v96 : Ref sig .tc := ⟨.hbm, 212, rfl⟩
abbrev main_v97 : Ref sig .tc := ⟨.hbm, 213, rfl⟩
abbrev main_v98 : Ref sig .tc := ⟨.hbm, 214, rfl⟩
abbrev main_v99 : Ref sig .tc := ⟨.hbm, 215, rfl⟩
abbrev main_v100 : Ref sig .tc := ⟨.hbm, 216, rfl⟩
abbrev main_v101 : Ref sig .tc := ⟨.hbm, 217, rfl⟩
abbrev main_cst_21 : Ref sig .tc := ⟨.hbm, 218, rfl⟩
abbrev main_v102 : Ref sig .tc := ⟨.hbm, 219, rfl⟩
abbrev main_v103 : Ref sig .tc := ⟨.hbm, 220, rfl⟩
abbrev main_call13_c : Ref sig .tc := ⟨.hbm, 221, rfl⟩
abbrev main_call13_v0 : Ref sig .tc := ⟨.hbm, 222, rfl⟩
abbrev main_call13_v1 : Ref sig .tc := ⟨.hbm, 223, rfl⟩
abbrev main_call13_c_0 : Ref sig .tc := ⟨.hbm, 224, rfl⟩
abbrev main_call13_v2 : Ref sig .tc := ⟨.hbm, 225, rfl⟩
abbrev main_call13_v3 : Ref sig .tc := ⟨.hbm, 226, rfl⟩
abbrev main_call13_v4 : Ref sig .tc := ⟨.hbm, 227, rfl⟩
abbrev main_call13_v5 : Ref sig .tc := ⟨.hbm, 228, rfl⟩
abbrev main_call13_c_1 : Ref sig .tc := ⟨.hbm, 229, rfl⟩
abbrev main_call13_c_2 : Ref sig .tc := ⟨.hbm, 230, rfl⟩
abbrev main_call13_v6 : Ref sig .tc := ⟨.hbm, 231, rfl⟩
abbrev main_call13_v7 : Ref sig .tc := ⟨.hbm, 232, rfl⟩
abbrev main_call13_v8 : Ref sig .tc := ⟨.hbm, 233, rfl⟩
abbrev main_call13_v9 : Ref sig .tc := ⟨.hbm, 234, rfl⟩
abbrev main_call13_v10 : Ref sig .tc := ⟨.hbm, 235, rfl⟩
abbrev main_call13_v11 : Ref sig .tc := ⟨.hbm, 236, rfl⟩
abbrev main_call13_c_3 : Ref sig .tc := ⟨.hbm, 237, rfl⟩
abbrev main_call13_v12 : Ref sig .tc := ⟨.hbm, 238, rfl⟩
abbrev main_call13_v13 : Ref sig .tc := ⟨.hbm, 239, rfl⟩
abbrev main_call13_cst : Ref sig .tc := ⟨.hbm, 240, rfl⟩
abbrev main_call13_v14 : Ref sig .tc := ⟨.hbm, 241, rfl⟩
abbrev main_v104 : Ref sig .tc := ⟨.hbm, 242, rfl⟩
abbrev main_v105 : Ref sig .tc := ⟨.hbm, 243, rfl⟩
abbrev main_v106 : Ref sig .tc := ⟨.hbm, 244, rfl⟩
abbrev main_v107 : Ref sig .tc := ⟨.hbm, 245, rfl⟩
abbrev main_v108 : Ref sig .tc := ⟨.hbm, 246, rfl⟩
abbrev main_v109 : Ref sig .tc := ⟨.hbm, 247, rfl⟩
abbrev main_cst_22 : Ref sig .tc := ⟨.hbm, 248, rfl⟩
abbrev main_v110 : Ref sig .tc := ⟨.hbm, 249, rfl⟩
abbrev main_v111 : Ref sig .tc := ⟨.hbm, 250, rfl⟩
abbrev main_v112 : Ref sig .tc := ⟨.hbm, 251, rfl⟩
abbrev main_cst_23 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_cst_24 : Ref sig .tc := ⟨.hbm, 256, rfl⟩
abbrev main_v116 : Ref sig .tc := ⟨.hbm, 257, rfl⟩
abbrev main_v117 : Ref sig .tc := ⟨.hbm, 258, rfl⟩
abbrev main_v118 : Ref sig .tc := ⟨.hbm, 259, rfl⟩
abbrev main_v119 : Ref sig .tc := ⟨.hbm, 260, rfl⟩
abbrev main_cst_25 : Ref sig .tc := ⟨.hbm, 261, rfl⟩
abbrev main_v120 : Ref sig .tc := ⟨.hbm, 262, rfl⟩
abbrev main_cst_26 : Ref sig .tc := ⟨.hbm, 263, rfl⟩
abbrev main_v121 : Ref sig .tc := ⟨.hbm, 264, rfl⟩
abbrev main_cst_27 : Ref sig .tc := ⟨.hbm, 265, rfl⟩
abbrev main_v122 : Ref sig .tc := ⟨.hbm, 266, rfl⟩

abbrev nD : Nat := 1
abbrev τ : Topo := Topo.v7x

variable {F : FTy → Type} [FloatOps F]
-- ==== Proof.Frames.lean ====
/- The frames of the three programs, and that the idealized kernel is the printed kernel with its two named constants
   read at their names' values. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The printed kernel runs, keeps its arguments and leaves every semaphore at zero. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- So does the idealized reference, which has no semaphore at all. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants stand for a third and for the inverse of the temperature. -/
theorem named_consts : Cert.preserves_Kernel_KernelIdeal :=
  ⟨IdealRules.named_const.statement Cert.KernelIdeal.κ "third" .f32 0x3EAAAAAB#32 ((1 / 3 : ℝ) : EReal) rfl,
   IdealRules.named_const.statement Cert.KernelIdeal.κ "inv_t" .f32 0x41649249#32 ((134217728 / 9395241 : ℝ) : EReal) rfl⟩

end Cert.Proof

end
-- ==== Proof.KernelRun.lean ====
/- What the idealized kernel's run leaves in its result array: the host's three operations on the one value the launch
   stores, which is the body's output at the two argument arrays whole. -/
module

public import proofs.«01_k».proof.Defs
public import proofs.«01_k».proof.Proof.Gen.KernelIdeal.Frame
public import Idealize.ShloMosaic.Lib.Claim
public import Idealize.ShloMosaic.Lib.Pipeline.ValueKit

@[expose] public section

noncomputable section

namespace Cert.KernelIdeal.RunValue

open Idealize.ShloMosaic Idealize.ShloMosaic.TcCoe Idealize.SL.Sem Cert.KernelIdeal Cert.KernelIdeal.Gen

/-- The kernel's result as a function of its argument arrays. -/
def result (x0 x1 : Vec Ideal S8x512x128 .f32) : FVec Ideal S_ .f32 :=
  Host.divf (mulf (constant S_ .f32 0x3F800000#32)
    (Host.reduceAdd (out0_2 (F := Ideal) x0 x1) (constant S_ .f32 0x00000000#32) reducesTo_S1x1x1_S_d0_1_2 h_S_)) (constant S_ .f32 0x46000000#32)

variable (m : (ℓ : Loc nD τ sig) → Buf (Elt Ideal) ℓ)

theorem index0 : ∀ (t : Fin cfg0.N) (a : Fin 3), win0_0.index t a = 0 := by decide +kernel
theorem index1 : ∀ (t : Fin cfg0.N) (a : Fin 3), win0_1.index t a = 0 := by decide +kernel
theorem index2 : ∀ (t : Fin cfg0.N) (a : Fin 3), win0_2.index t a = 0 := by decide +kernel

/-- The launch's one block of the first argument is the array. -/
theorem block0 (c : Dev nD) (t : Fin cfg0.N) : (iblk m c 0 t : Vec Ideal S8x512x128 .f32) = m ((c.tc : Thread nD τ).loc main_arg0) := by
  funext y
  unfold iblk
  show V m c main_arg0 (((cfg0.win 0).blk t).view.emb y) = V m c main_arg0 y
  refine congrArg (V m c main_arg0) (funext fun a => Fin.ext ?_)
  blk_simp
  rw [index0 t a, Nat.zero_mul, Nat.zero_add]

/-- The launch's one block of the second argument is the array. -/
theorem block1 (c : Dev nD) (t : Fin cfg0.N) : (iblk m c 1 t : Vec Ideal S8x512x128 .f32) = m ((c.tc : Thread nD τ).loc main_arg1) := by
  funext y
  unfold iblk
  show V m c main_arg1 (((cfg0.win 1).blk t).view.emb y) = V m c main_arg1 y
  refine congrArg (V m c main_arg1) (funext fun a => Fin.ext ?_)
  blk_simp
  rw [index1 t a, Nat.zero_mul, Nat.zero_add]

/-- The launch's one point writes the body's output back: the result array of the launch. -/
theorem arr_eq (c : Dev nD) :
    (dats m 0 c).arrAt 2 (cfgs 0).N = out0_2 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2, block0, block1]
  refine congrArg (out0_2 (F := Ideal) _ _) (funext fun a => Fin.ext ?_)
  blk_simp
  rw [index2 t a, Nat.zero_mul, Nat.zero_add]

/-- The kernel's run: its result array holds `result` of its arguments, which end unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Cert.KernelIdeal.Gen.run_main m ρ
  unfold Pipeline.afterTail₀
  simp only [List.flatten_cons, List.flatten_nil, List.append_nil]
  after_results
  have h : Pipeline.withArrays (cfgs 0).spec c (V0 m c) (fun w => (dats m 0 c).arrAt w (cfgs 0).N) (Proc.tc.devRef main_v0)
      = out0_2 (F := Ideal) (m ((c.tc : Thread nD τ).loc main_arg0)) (m ((c.tc : Thread nD τ).loc main_arg1)) :=
    (Pipeline.withArrays_arr (cfgs 0).spec (by decide) c (V0 m c) (fun w => (dats m 0 c).arrAt w (cfgs 0).N) 2).trans (arr_eq m c)
  rw [h]
  rfl

end Cert.KernelIdeal.RunValue

end
-- ==== Proof.Stages.lean ====
/- One sample's loss as the kernel body computes it, in stages, and that the body's single store holds the sum over the
   eight samples of this one function. -/
module

public import proofs.«01_k».proof.Defs
public import proofs.«01_k».proof.Proof.Gen.KernelIdeal.Frame

@[expose] public section

set_option maxRecDepth 16384

noncomputable section

namespace Cert.KernelIdeal.Stages

open Idealize.ShloMosaic Cert.KernelIdeal Cert.KernelIdeal.Gen

/-- The rows of a view, each divided by the greater of its norm and a small constant. -/
def unitRows (v : FVec Ideal S1x512x128 .f32) : FVec Ideal S512x128 .f32 :=
  have x : FVec Ideal S512x128 .f32 := shapeCast S512x128 v shapeCasts_S1x512x128_S512x128
  have n : FVec Ideal S512x1 .f32 := shapeCast S512x1 (multiReduction .add [1] S512 (mulf x x) 0x00000000#32 reduces_S512x128_S512 (.inl rfl) rfl) shapeCasts_S512_S512x1
  have g : FVec Ideal S512x1 .f32 := maximumf (sqrt n) (broadcast S512x1 (Scalar.ofBits (F := Ideal) .f32 0x2B8CBCCC#32))
  mulf x (broadcastTo S512x128 (divf (broadcast S512x1 (Scalar.ofBits (F := Ideal) .f32 0x3F800000#32)) g) broadcasts_S512x1_S512x128)

/-- The unit rows of both views, one below the other. -/
def both (v w : FVec Ideal S1x512x128 .f32) : FVec Ideal S1024x128 .bf16 :=
  truncf .bf16 (concatenate S1024x128 0 [⟨S512x128, unitRows v⟩, ⟨S512x128, unitRows w⟩] concatenates_S512x128_S512x128_S1024x128_d0) bitsLt_bf16_f32

/-- All products of two rows. -/
def gram (z : FVec Ideal S1024x128 .bf16) : FVec Ideal S1024x1024 .f32 :=
  matmul dot_S1024x128_S128x1024_S1024x1024_1_0_0_1_n_n none z (transpose S128x1024 [1, 0] z transposes_S1024x128_p1_0_S128x1024)
    (constant S1024x1024 .f32 0x00000000#32)

/-- The softmax of each row, not shifted. -/
def soft (s : FVec Ideal S512x512 .f32) : FVec Ideal S512x512 .f32 :=
  have r : FVec Ideal S512x1 .f32 := shapeCast S512x1 (multiReduction .add [1] S512 (exp s) 0x00000000#32 reduces_S512x512_S512 (.inl rfl) rfl) shapeCasts_S512_S512x1
  mulf (exp s) (broadcastTo S512x512 (divf (broadcast S512x1 (Scalar.ofBits (F := Ideal) .f32 0x3F800000#32)) r) broadcasts_S512x1_S512x512)

/-- The square of a matrix. -/
def square (a : FVec Ideal S512x512 .f32) : FVec Ideal S512x512 .f32 :=
  matmul dot_S512x512_S512x512_S512x512_1_0_0_1_n_n none (truncf .bf16 a bitsLt_bf16_f32) (truncf .bf16 a bitsLt_bf16_f32)
    (constant S512x512 .f32 0x00000000#32)

/-- The mean of a matrix, its square and its fourth power. -/
def assoc (a : FVec Ideal S512x512 .f32) : FVec Ideal S512x512 .f32 :=
  mulf (addf (addf a (square a)) (square (square a))) (broadcast S512x512 (Named.named (F := Ideal) κ "third" (φ := .f32) 0x3EAAAAAB#32))

/-- The exponentials of all similarities over the temperature. -/
def expSim (s : FVec Ideal S1024x1024 .f32) : FVec Ideal S1024x1024 .f32 :=
  exp (mulf s (broadcast S1024x1024 (Named.named (F := Ideal) κ "inv_t" (φ := .f32) 0x41649249#32)))

/-- The exponentials of a row's similarity with the row of the same number in the other view. -/
def strong (z : FVec Ideal S1024x128 .bf16) : FVec Ideal S512x1 .f32 :=
  have y : FVec Ideal S1024x128 .f32 := extf .f32 z bitsLt_bf16_f32
  have p : FVec Ideal S512x128 .f32 := mulf (extractStridedSlice S512x128 ![0, 0] y slices_S1024x128_o0_0_S512x128)
    (extractStridedSlice S512x128 ![512, 0] y slices_S1024x128_o512_0_S512x128)
  exp (mulf (shapeCast S512x1 (multiReduction .add [1] S512 p 0x00000000#32 reduces_S512x128_S512 (.inl rfl) rfl) shapeCasts_S512_S512x1)
    (broadcast S512x1 (Named.named (F := Ideal) κ "inv_t" (φ := .f32) 0x41649249#32)))

/-- Each row's sum of exponentials, without the row's own. -/
def den (z : FVec Ideal S1024x128 .bf16) : FVec Ideal S1024x1 .f32 :=
  have y : FVec Ideal S1024x128 .f32 := extf .f32 z bitsLt_bf16_f32
  have d : FVec Ideal S1024x1 .f32 := exp (mulf (shapeCast S1024x1 (multiReduction .add [1] S1024 (mulf y y) 0x00000000#32 reduces_S1024x128_S1024 (.inl rfl) rfl) shapeCasts_S1024_S1024x1)
    (broadcast S1024x1 (Named.named (F := Ideal) κ "inv_t" (φ := .f32) 0x41649249#32)))
  subf (shapeCast S1024x1 (multiReduction .add [1] S1024 (expSim (gram z)) 0x00000000#32 reduces_S1024x1024_S1024 (.inl rfl) rfl) shapeCasts_S1024_S1024x1) d

/-- Column numbers. -/
def cols : IVec S512x512 32 := iota .tc S512x512 32 [1] iota_S512x512_d1_w32

/-- Row numbers. -/
def rows : IVec S512x512 32 := iota .tc S512x512 32 [0] iota_S512x512_d0_w32

/-- The five columns about the diagonal, without the diagonal. -/
def window : IVec S512x512 1 :=
  have start : IVec S512x512 32 := minsi (broadcast S512x512 507#32) (maxsi (broadcast S512x512 0#32) (subi rows (broadcast S512x512 2#32)))
  andi (andi (cmpi .sge cols start) (cmpi .slt cols (addi start (broadcast S512x512 5#32)))) (cmpi .ne cols rows)

/-- Half the Gaussian of the distance from the diagonal. -/
def near : FVec Ideal S512x512 .f32 :=
  have d : FVec Ideal S512x512 .f32 := sitofp .f32 (subi rows cols)
  mulf (broadcast S512x512 (Scalar.ofBits (F := Ideal) .f32 0x3F000000#32))
    (exp (mulf (subf (broadcast S512x512 (Scalar.ofBits (F := Ideal) .f32 0x00000000#32)) (mulf d d)) (broadcast S512x512 (Scalar.ofBits (F := Ideal) .f32 0x3E000000#32))))

/-- A row's weighted sum of exponentials over the window, and the strong pair's. -/
def num (a e : FVec Ideal S512x512 .f32) (p : FVec Ideal S512x1 .f32) : FVec Ideal S512x1 .f32 :=
  have w : FVec Ideal S512x512 .f32 := addf near (mulf (broadcast S512x512 (Scalar.ofBits (F := Ideal) .f32 0x3F000000#32)) a)
  addf p (shapeCast S512x1 (multiReduction .add [1] S512
    (select window (mulf w e) (broadcast S512x512 (Scalar.ofBits (F := Ideal) .f32 0x00000000#32))) 0x00000000#32 reduces_S512x512_S512 (.inl rfl) rfl) shapeCasts_S512_S512x1)

/-- A view's loss, summed over its rows. -/
def viewLoss (p d : FVec Ideal S512x1 .f32) : Ideal .f32 :=
  have c : FVec Ideal S512x1 .f32 := broadcast S512x1 (Scalar.ofBits (F := Ideal) .f32 0x3089705F#32)
  have l : FVec Ideal S512x1 .f32 := subf (broadcast S512x1 (Scalar.ofBits (F := Ideal) .f32 0x00000000#32)) (log (addf (divf p (addf d c)) c))
  extractAt ![0, 0, 0] (shapeCast S1x1x1 (multiReduction .add [1, 2] S1 (shapeCast S1x512x1 l shapeCasts_S512x1_S1x512x1) 0x00000000#32
    reduces_S1x512x1_S1 (.inl rfl) rfl) shapeCasts_S1_S1x1x1) inpos_S1x1x1_p0_0_0

/-- The first view's numerators. -/
def num1 (z : FVec Ideal S1024x128 .bf16) : FVec Ideal S512x1 .f32 :=
  num (assoc (soft (extractStridedSlice S512x512 ![512, 512] (gram z) slices_S1024x1024_o512_512_S512x512)))
    (extractStridedSlice S512x512 ![0, 512] (expSim (gram z)) slices_S1024x1024_o0_512_S512x512) (strong z)

/-- The second view's numerators. -/
def num2 (z : FVec Ideal S1024x128 .bf16) : FVec Ideal S512x1 .f32 :=
  num (assoc (soft (extractStridedSlice S512x512 ![0, 0] (gram z) slices_S1024x1024_o0_0_S512x512)))
    (extractStridedSlice S512x512 ![512, 0] (expSim (gram z)) slices_S1024x1024_o512_0_S512x512) (strong z)

/-- A sample's loss from the unit rows of its two views. -/
def loss (z : FVec Ideal S1024x128 .bf16) : Ideal .f32 :=
  Scalar.addf
    (viewLoss (num1 z) (extractStridedSlice S512x1 ![0, 0] (den z) slices_S1024x1_o0_0_S512x1))
    (viewLoss (num2 z) (extractStridedSlice S512x1 ![512, 0] (den z) slices_S1024x1_o512_0_S512x1))

/-- The loss of the sample that a load reads off the two arrays. -/
def sampleLoss (v w : Vec Ideal S1x512x128 .f32) : Ideal .f32 := loss (both v w)

/-- The body's one store: the sum of the eight samples' losses. -/
theorem out_eq (x0 x1 : Vec Ideal S8x512x128 .f32) :
    out0_2 (F := Ideal) x0 x1 = View.canon [⟨r0_8, broadcast S1x1x1
      (Scalar.addf (Scalar.addf (Scalar.addf (Scalar.addf (Scalar.addf (Scalar.addf (Scalar.addf
        (sampleLoss (View.ld x0 r0_0) (View.ld x1 r0_0))
        (sampleLoss (View.ld x0 r0_1) (View.ld x1 r0_1)))
        (sampleLoss (View.ld x0 r0_2) (View.ld x1 r0_2)))
        (sampleLoss (View.ld x0 r0_3) (View.ld x1 r0_3)))
        (sampleLoss (View.ld x0 r0_4) (View.ld x1 r0_4)))
        (sampleLoss (View.ld x0 r0_5) (View.ld x1 r0_5)))
        (sampleLoss (View.ld x0 r0_6) (View.ld x1 r0_6)))
        (sampleLoss (View.ld x0 r0_7) (View.ld x1 r0_7)))⟩] := by
  rfl

end Cert.KernelIdeal.Stages

end
-- ==== Proof.Spec.lean ====
/- The mathematics of the loss over real numbers: unit rows, similarities, the association matrix, the nearness, the
   window of the five nearest places, and the bounds that make the window's places the five of greatest score. -/
module

public import Idealize.ShloMosaic.PureOps.Ideal
public import Idealize.ShloMosaic.Lib.IdealHost
public import Idealize.ShloMosaic.Lib.Pointwise

@[expose] public section

noncomputable section

namespace Cert.Spec

open Idealize.ShloMosaic

/-! ## Sums of real numbers among the extended reals -/

/-- A sum of real numbers is the same sum of extended reals. -/
theorem sum_real {ι : Type} [Fintype ι] (f : ι → ℝ) : ∑ i, ((f i : ℝ) : EReal) = ((∑ i, f i : ℝ) : EReal) := by
  induction (Finset.univ : Finset ι) using Finset.cons_induction with
  | empty => simp
  | cons a s ha ih => rw [Finset.sum_cons, Finset.sum_cons, ih, EReal.coe_add]

/-- A quotient of real numbers, the divisor not zero. -/
theorem div_real (x : ℝ) {y : ℝ} (hy : y ≠ 0) : Ideal.div (x : EReal) (y : EReal) = ((x / y : ℝ) : EReal) := by
  rw [Ideal.div_coe hy, ← EReal.coe_mul, mul_one_div]

/-! ## Unit rows -/

/-- The least divisor of a row. -/
theorem tiny_real : ∃ c : ℝ, 0 < c ∧ Ideal.ofBits .f32 0x2B8CBCCC#32 = ((c : ℝ) : EReal) := by
  refine ⟨9223372 / 2 ^ 63, by norm_num, ?_⟩
  simp [Ideal.ofBits, Ideal.ieee, -EReal.coe_mul]; norm_num

/-- A row's entry divided by the greater of the row's norm and a small constant. -/
def unit (r : Fin 128 → EReal) (k : Fin 128) : EReal :=
  Ideal.div (r k) (max (Ideal.sqrt (∑ x, r x * r x)) (Ideal.ofBits .f32 0x2B8CBCCC#32))

theorem mul_self_nonneg' (x : EReal) : 0 ≤ x * x := by
  rcases le_total 0 x with h | h
  · exact mul_nonneg h h
  · exact EReal.mul_nonneg_iff.mpr (Or.inr ⟨h, h⟩)

/-- Every row becomes a row of real numbers of norm at most one; a row with an infinite entry becomes zero. -/
theorem unit_real (r : Fin 128 → EReal) :
    ∃ u : Fin 128 → ℝ, (∀ k, unit r k = ((u k : ℝ) : EReal)) ∧ ∑ k, u k * u k ≤ 1 := by
  obtain ⟨c, hc, hcE⟩ := tiny_real
  by_cases h : ∃ k, r k = ⊤ ∨ r k = ⊥
  · obtain ⟨k, hk⟩ := h
    have h1 : r k * r k = ⊤ := by rcases hk with hk | hk <;> rw [hk] <;> rfl
    have h2 : ∑ x, r x * r x = ⊤ := by
      refine top_le_iff.mp ?_
      rw [← h1]
      exact Finset.single_le_sum (f := fun x => r x * r x) (fun x _ => mul_self_nonneg' (r x)) (Finset.mem_univ k)
    refine ⟨fun _ => 0, fun k => ?_, by simp⟩
    unfold unit
    rw [h2, Ideal.sqrt_top, max_eq_left le_top, Ideal.div, if_neg (by simp), EReal.inv_top, mul_zero, EReal.coe_zero]
  · have h' : ∀ k, ∃ x : ℝ, r k = (x : EReal) := fun k => by
      have hk := fun e => h ⟨k, e⟩
      exact ⟨(r k).toReal, (EReal.coe_toReal (fun e => hk (Or.inl e)) (fun e => hk (Or.inr e))).symm⟩
    choose x hx using h'
    have hS : 0 ≤ ∑ k, x k * x k := Finset.sum_nonneg fun k _ => mul_self_nonneg _
    have hm : 0 < max (√(∑ k, x k * x k)) c := lt_max_of_lt_right hc
    have e : max (Ideal.sqrt (∑ k, r k * r k)) (Ideal.ofBits .f32 0x2B8CBCCC#32)
        = ((max (√(∑ k, x k * x k)) c : ℝ) : EReal) := by
      simp only [hx, ← EReal.coe_mul, sum_real, Ideal.sqrt_coe, if_neg (not_lt.mpr hS), hcE]
      exact (EReal.coe_strictMono.monotone.map_max).symm
    refine ⟨fun k => x k / max (√(∑ k, x k * x k)) c, fun k => ?_, ?_⟩
    · unfold unit
      rw [e, hx, div_real _ hm.ne']
    · simp only [div_mul_div_comm, ← Finset.sum_div]
      rw [div_le_one (mul_pos hm hm)]
      calc ∑ k, x k * x k = √(∑ k, x k * x k) * √(∑ k, x k * x k) := (Real.mul_self_sqrt hS).symm
        _ ≤ _ := mul_self_le_mul_self (Real.sqrt_nonneg _) (le_max_left _ _)

/-- The unit row's real entries. -/
def dir (r : Fin 128 → EReal) (k : Fin 128) : ℝ := (unit r k).toReal

theorem unit_eq (r : Fin 128 → EReal) (k : Fin 128) : unit r k = ((dir r k : ℝ) : EReal) := by
  obtain ⟨u, hu, -⟩ := unit_real r
  rw [dir, hu, EReal.toReal_coe]

theorem dir_le (r : Fin 128 → EReal) : ∑ k, dir r k * dir r k ≤ 1 := by
  obtain ⟨u, hu, h⟩ := unit_real r
  have e : dir r = u := funext fun k => by rw [dir, hu, EReal.toReal_coe]
  rw [e]; exact h

/-! ## The matrices -/

/-- The similarity of two rows. -/
def sim {n : ℕ} (u : Fin n → Fin 128 → ℝ) (i j : Fin n) : ℝ := ∑ k, u i k * u j k

/-- The softmax of each row. -/
def soft (s : Fin 512 → Fin 512 → ℝ) (i j : Fin 512) : ℝ := Real.exp (s i j) / ∑ k, Real.exp (s i k)

/-- The square of a matrix. -/
def square (a : Fin 512 → Fin 512 → ℝ) (i j : Fin 512) : ℝ := ∑ k, a i k * a k j

/-- The mean of a matrix, its square and its fourth power. -/
def assoc (a : Fin 512 → Fin 512 → ℝ) (i j : Fin 512) : ℝ := (a i j + square a i j + square (square a) i j) / 3

/-- The nearness of two places. -/
def near (i j : Fin 512) : ℝ := Real.exp (-(((i : ℝ) - (j : ℝ)) * ((i : ℝ) - (j : ℝ))) / 8)

/-- Half the nearness and half the association. -/
def score (u : Fin 512 → Fin 128 → ℝ) (i j : Fin 512) : ℝ := 1 / 2 * near i j + 1 / 2 * assoc (soft (sim u)) i j

/-- The rows of two views, one below the other. -/
def cat (u v : Fin 512 → Fin 128 → ℝ) (i : Fin 1024) : Fin 128 → ℝ :=
  if h : i.val < 512 then u ⟨i.val, h⟩ else v ⟨i.val - 512, by omega⟩

/-- The exponential of a similarity over the temperature, the nearest single precision number to 0.07. -/
def heat {n : ℕ} (u : Fin n → Fin 128 → ℝ) (i j : Fin n) : ℝ := Real.exp (sim u i j * (134217728 / 9395241))

/-- The five places about `i`, moved inwards at either end. -/
def window (i : Fin 512) : Finset (Fin 512) :=
  Finset.univ.filter fun j => min 507 (i.val - 2) ≤ j.val ∧ j.val < min 507 (i.val - 2) + 5

/-- The numerator of a row: its own pair's exponential, and the window's other places' exponentials by score. -/
def num (s e : Fin 512 → Fin 512 → ℝ) (i : Fin 512) : ℝ :=
  e i i + ∑ j ∈ window i, if j = i then 0 else s i j * e i j

/-- The sum of a row of exponentials less its diagonal entry. -/
def den (e : Fin 1024 → Fin 1024 → ℝ) (i : Fin 1024) : ℝ := ∑ j, e i j - e i i

/-- The loss of a row from its numerator and its denominator, each with the small constant beside it. -/
def rowLoss (n d : ℝ) : EReal :=
  -Ideal.log (Ideal.div (n : EReal) ((d : EReal) + Ideal.ofBits .f32 0x3089705F#32) + Ideal.ofBits .f32 0x3089705F#32)

/-- The numerator of a row of either view. -/
def top (u v : Fin 512 → Fin 128 → ℝ) (i : Fin 1024) : ℝ :=
  if h : i.val < 512 then num (score v) (fun i j => heat (cat u v) ⟨i.val, by omega⟩ ⟨512 + j.val, by omega⟩) ⟨i.val, h⟩
  else num (score u) (fun i j => heat (cat u v) ⟨512 + i.val, by omega⟩ ⟨j.val, by omega⟩) ⟨i.val - 512, by omega⟩

/-- The loss of a row of either view of one sample. -/
def loss (u v : Fin 512 → Fin 128 → ℝ) (i : Fin 1024) : EReal := rowLoss (top u v i) (den (heat (cat u v)) i)

/-! ## Bounds -/

theorem sim_le {n : ℕ} (u : Fin n → Fin 128 → ℝ) (hu : ∀ i, ∑ k, u i k * u i k ≤ 1) (i j : Fin n) : |sim u i j| ≤ 1 := by
  have h := Finset.sum_mul_sq_le_sq_mul_sq Finset.univ (u i) (u j)
  have hi := hu i
  have hj := hu j
  have h0 : 0 ≤ ∑ k, u j k * u j k := Finset.sum_nonneg fun k _ => mul_self_nonneg _
  simp only [← pow_two] at hi hj h0
  refine abs_le_one_iff_mul_self_le_one.mpr ?_
  rw [← pow_two]
  exact h.trans (mul_le_one₀ hi h0 hj)

/-- Rows of positive shares, none more than a bound. -/
structure Shares (b : ℝ) (a : Fin 512 → Fin 512 → ℝ) : Prop where
  pos : ∀ i j, 0 < a i j
  le : ∀ i j, a i j ≤ b
  sum : ∀ i, ∑ j, a i j = 1

/-- The square of a matrix of shares is one, under the same bound. -/
theorem Shares.square {b : ℝ} {a : Fin 512 → Fin 512 → ℝ} (h : Shares b a) : Shares b (square a) where
  pos i j := Finset.sum_pos (fun k _ => mul_pos (h.pos i k) (h.pos k j)) ⟨0, Finset.mem_univ _⟩
  le i j := by
    calc ∑ k, a i k * a k j ≤ ∑ k, a i k * b :=
          Finset.sum_le_sum fun k _ => mul_le_mul_of_nonneg_left (h.le k j) (h.pos i k).le
      _ = b := by rw [← Finset.sum_mul, h.sum, one_mul]
  sum i := by
    unfold Spec.square
    rw [Finset.sum_comm]
    simp only [← Finset.mul_sum, h.sum, mul_one]

theorem shares_soft (u : Fin 512 → Fin 128 → ℝ) (hu : ∀ i, ∑ k, u i k * u i k ≤ 1) : Shares (85 / 5120) (soft (sim u)) := by
  have hS : ∀ i, 0 < ∑ k, Real.exp (sim u i k) := fun i =>
    Finset.sum_pos (fun k _ => Real.exp_pos _) ⟨0, Finset.mem_univ _⟩
  refine ⟨fun i j => div_pos (Real.exp_pos _) (hS i), fun i j => ?_, fun i => ?_⟩
  · have h1 : Real.exp (sim u i j) ≤ Real.exp 1 := Real.exp_le_exp.mpr (abs_le.mp (sim_le u hu i j)).2
    have h2 : 512 * Real.exp (-1) ≤ ∑ k, Real.exp (sim u i k) := by
      calc 512 * Real.exp (-1) = ∑ _k : Fin 512, Real.exp (-1) := by simp
        _ ≤ _ := Finset.sum_le_sum fun k _ => Real.exp_le_exp.mpr (abs_le.mp (sim_le u hu i k)).1
    have h3 : Real.exp 1 * Real.exp 1 ≤ 8.5 := by
      have h7 := Real.add_one_le_exp (-1 / 8 : ℝ)
      have h8 : Real.exp (-1 / 8) * Real.exp (1 / 8) = 1 := by rw [← Real.exp_add]; norm_num
      have h9 := Real.exp_pos (1 / 8 : ℝ)
      have h10 : Real.exp (1 / 8) ≤ 8 / 7 := by nlinarith
      have e : Real.exp 1 * Real.exp 1 = Real.exp (1 / 8) ^ 16 := by
        rw [← Real.exp_add, ← Real.exp_nat_mul]; norm_num
      rw [e]
      exact (pow_le_pow_left₀ h9.le h10 16).trans (by norm_num)
    have h4 : Real.exp 1 * Real.exp (-1) = 1 := by rw [← Real.exp_add]; simp
    have h5 := Real.exp_pos (-1)
    unfold soft
    rw [div_le_iff₀ (hS i)]
    nlinarith [Real.exp_pos 1]
  · unfold soft
    rw [← Finset.sum_div, div_self (hS i).ne']

/-- Half the association is positive and small. -/
theorem assoc_le (u : Fin 512 → Fin 128 → ℝ) (hu : ∀ i, ∑ k, u i k * u i k ≤ 1) (i j : Fin 512) :
    0 < assoc (soft (sim u)) i j ∧ assoc (soft (sim u)) i j ≤ 85 / 5120 := by
  have h := shares_soft u hu
  have h1 := h.pos i j
  have h2 := h.square.pos i j
  have h3 := h.square.square.pos i j
  have h4 := h.le i j
  have h5 := h.square.le i j
  have h6 := h.square.square.le i j
  unfold assoc
  constructor <;> linarith

/-- The nearness at a distance, as a power of the nearness at distance one. -/
theorem near_eq (i j : Fin 512) (d : ℕ) (h : (i.val : ℤ) - j.val = d ∨ (j.val : ℤ) - i.val = d) :
    near i j = Real.exp (-1 / 8) ^ (d * d) := by
  have e : ((i : ℝ) - (j : ℝ)) * ((i : ℝ) - (j : ℝ)) = ((d * d : ℕ) : ℝ) := by
    push_cast
    rcases h with h | h
    · have : ((i : ℝ) - (j : ℝ)) = d := by exact_mod_cast h
      rw [this]
    · have : ((j : ℝ) - (i : ℝ)) = d := by exact_mod_cast h
      rw [← this]; ring
  rw [← Real.exp_nat_mul, near, e]
  congr 1; ring

/-- Every place of the window is nearer than every place outside, by more than the association can make up. -/
theorem near_gap (i j j' : Fin 512) (hj : j ∈ window i) (hj' : j' ∉ window i) : near i j' + 85 / 5120 < near i j := by
  have hq0 : (7 / 8 : ℝ) ≤ Real.exp (-1 / 8) := by
    have := Real.add_one_le_exp (-1 / 8 : ℝ); linarith
  have hq1 : Real.exp (-1 / 8) ≤ 8 / 9 := by
    have h1 := Real.add_one_le_exp (1 / 8 : ℝ)
    have h2 : Real.exp (-1 / 8) * Real.exp (1 / 8) = 1 := by rw [← Real.exp_add]; norm_num
    have := Real.exp_pos (-1 / 8 : ℝ)
    nlinarith
  obtain ⟨d, hd⟩ : ∃ d : ℕ, (i.val : ℤ) - j.val = d ∨ (j.val : ℤ) - i.val = d :=
    ⟨((i.val : ℤ) - j.val).natAbs, by omega⟩
  obtain ⟨d', hd'⟩ : ∃ d : ℕ, (i.val : ℤ) - j'.val = d ∨ (j'.val : ℤ) - i.val = d :=
    ⟨((i.val : ℤ) - j'.val).natAbs, by omega⟩
  rw [near_eq i j d hd, near_eq i j' d' hd']
  have hi := i.isLt
  have hj1 := j.isLt
  have hj'1 := j'.isLt
  simp only [window, Finset.mem_filter, Finset.mem_univ, true_and] at hj hj'
  generalize Real.exp (-1 / 8) = q at hq0 hq1
  have key : ∀ m : ℕ, 2 ≤ m → m ≤ 4 → d ≤ m → m + 1 ≤ d' → q ^ (d' * d') + 85 / 5120 < q ^ (d * d) := by
    intro m hm hm4 h1 h2
    have a1 : q ^ (m * m) ≤ q ^ (d * d) :=
      pow_le_pow_of_le_one (by linarith) (by linarith) (Nat.mul_le_mul h1 h1)
    have a2 : q ^ (d' * d') ≤ q ^ ((m + 1) * (m + 1)) :=
      pow_le_pow_of_le_one (by linarith) (by linarith) (Nat.mul_le_mul h2 h2)
    have a3 : q ^ ((m + 1) * (m + 1)) = q ^ (m * m) * q ^ (2 * m + 1) := by rw [← pow_add]; congr 1; ring
    have a4 : (7 / 8 : ℝ) ^ (4 * 4) ≤ q ^ (m * m) :=
      (pow_le_pow_of_le_one (by norm_num) (by norm_num) (Nat.mul_le_mul hm4 hm4)).trans
        (pow_le_pow_left₀ (by norm_num) hq0 _)
    have a5 : q ^ (2 * m + 1) ≤ (8 / 9 : ℝ) ^ 5 :=
      (pow_le_pow_left₀ (by linarith) hq1 _).trans (pow_le_pow_of_le_one (by norm_num) (by norm_num) (by omega))
    have a6 : (7 / 8 : ℝ) ^ (4 * 4) * (1 - (8 / 9 : ℝ) ^ 5) ≤ q ^ (m * m) * (1 - q ^ (2 * m + 1)) :=
      mul_le_mul a4 (by linarith) (by norm_num) (by positivity)
    have a7 : (85 / 5120 : ℝ) < (7 / 8 : ℝ) ^ (4 * 4) * (1 - (8 / 9 : ℝ) ^ 5) := by norm_num
    rw [mul_sub (q ^ (m * m)), mul_one, ← a3] at a6
    linarith
  rcases lt_or_ge d' 4 with h | h
  · exact key 2 (by omega) (by omega) (by omega) (by omega)
  · rcases lt_or_ge d' 5 with h | h
    · exact key 3 (by omega) (by omega) (by omega) (by omega)
    · exact key 4 (by omega) (by omega) (by omega) (by omega)

/-- Every place of the window scores more than every place outside. -/
theorem score_gap (u : Fin 512 → Fin 128 → ℝ) (hu : ∀ i, ∑ k, u i k * u i k ≤ 1) (i j j' : Fin 512) (hj : j ∈ window i)
    (hj' : j' ∉ window i) : score u i j' < score u i j := by
  have h1 := near_gap i j j' hj hj'
  have h2 := (assoc_le u hu i j).1
  have h3 := (assoc_le u hu i j').2
  unfold score
  linarith

/-- The window has five places. -/
theorem card_window (i : Fin 512) : (window i).card = 5 := by
  have hinj : Function.Injective fun k : Fin 5 => (⟨min 507 (i.val - 2) + k.val, by omega⟩ : Fin 512) := fun a b h => by
    have := congrArg Fin.val h
    exact Fin.ext (by simpa using this)
  have e : window i = Finset.univ.image fun k : Fin 5 => (⟨min 507 (i.val - 2) + k.val, by omega⟩ : Fin 512) := by
    ext j
    rw [window, Finset.mem_filter, Finset.mem_image]
    constructor
    · rintro ⟨-, h1, h2⟩
      exact ⟨⟨j.val - min 507 (i.val - 2), by omega⟩, Finset.mem_univ _, Fin.ext (by simp only; omega)⟩
    · rintro ⟨k, -, rfl⟩
      exact ⟨Finset.mem_univ _, by simp only; omega, by simp only; omega⟩
  rw [e, Finset.card_image_of_injective _ hinj, Finset.card_univ, Fintype.card_fin]

end Cert.Spec

end
-- ==== Proof.Consts.lean ====
/- The real numbers that the programs' single precision words and named constants stand for. -/
module

public import proofs.«01_k».proof.Defs
public import proofs.«01_k».proof.Proof.Spec

@[expose] public section

noncomputable section

namespace Cert.Consts

open Idealize.ShloMosaic

theorem half : Ideal.ofBits .f32 0x3F000000#32 = ((1 / 2 : ℝ) : EReal) := by
  simp [Ideal.ofBits, Ideal.ieee, -EReal.coe_mul]; norm_num

theorem eighth : Ideal.ofBits .f32 0x3E000000#32 = ((1 / 8 : ℝ) : EReal) := by
  simp [Ideal.ofBits, Ideal.ieee, -EReal.coe_mul]; norm_num

theorem eight : Ideal.ofBits .f32 0x41000000#32 = ((8 : ℝ) : EReal) := by
  simp [Ideal.ofBits, Ideal.ieee, -EReal.coe_mul]; norm_num

theorem three : Ideal.ofBits .f32 0x40400000#32 = ((3 : ℝ) : EReal) := by
  simp [Ideal.ofBits, Ideal.ieee, -EReal.coe_mul]; norm_num

theorem temperature : Ideal.ofBits .f32 0x3D8F5C29#32 = ((9395241 / 134217728 : ℝ) : EReal) := by
  simp [Ideal.ofBits, Ideal.ieee, -EReal.coe_mul]; norm_num

theorem minus_infinity : Ideal.ofBits .f32 0xFF800000#32 = ⊥ := by
  simp [Ideal.ofBits, Ideal.ieee]

theorem tiny_ne (x : EReal) : max x (Ideal.ofBits .f32 0x2B8CBCCC#32) ≠ 0 := by
  obtain ⟨c, hc, e⟩ := Spec.tiny_real
  rw [e]
  exact (lt_max_of_lt_right (by exact_mod_cast hc)).ne'

theorem inv_t : Named.named (F := Ideal) KernelIdeal.κ "inv_t" (φ := .f32) 0x41649249#32 = ((134217728 / 9395241 : ℝ) : EReal) :=
  IdealRules.named_const.ideal_named_scalar _ _ _ _ rfl

theorem third : Named.named (F := Ideal) KernelIdeal.κ "third" (φ := .f32) 0x3EAAAAAB#32 = ((1 / 3 : ℝ) : EReal) :=
  IdealRules.named_const.ideal_named_scalar _ _ _ _ rfl

end Cert.Consts

end
-- ==== Proof.KernelValue.lean ====
/- The kernel's stages read at an index, and a sample's loss as the sum of its rows' losses. -/
module

public import proofs.«01_k».proof.Proof.Stages
public import proofs.«01_k».proof.Proof.Consts
public import Idealize.ShloMosaic.Lib.Pointwise
public import Idealize.ShloMosaic.Lib.WordCmp

@[expose] public section

set_option maxRecDepth 16384

noncomputable section

namespace Cert.KernelIdeal.Stages

open Idealize.ShloMosaic Cert.KernelIdeal Cert.KernelIdeal.Gen

theorem unitRows_apply (v : FVec Ideal S1x512x128 .f32) (i : Fin 512) (k : Fin 128) :
    unitRows v (ix2 i k) = Spec.unit (fun x => v (ix3 0 i x)) k := by
  pointwise [unitRows]
  exact Ideal.mul_one_div (Consts.tiny_ne _)

/-- The real unit rows of a view of one sample. -/
def dirs (v : FVec Ideal S1x512x128 .f32) (i : Fin 512) : Fin 128 → ℝ := Spec.dir fun x => v (ix3 0 i x)

theorem both_apply (v w : FVec Ideal S1x512x128 .f32) (i : Fin 1024) (k : Fin 128) :
    both v w (ix2 i k) = ((Spec.cat (dirs v) (dirs w) i k : ℝ) : EReal) := by
  pointwise [both]
  unfold Spec.cat
  split <;> rw [unitRows_apply, Spec.unit_eq] <;> rfl

variable {z : FVec Ideal S1024x128 .bf16} {c : Fin 1024 → Fin 128 → ℝ}

theorem gram_apply (hz : ∀ i k, z (ix2 i k) = ((c i k : ℝ) : EReal)) (i j : Fin 1024) :
    gram z (ix2 i j) = ((Spec.sim c i j : ℝ) : EReal) := by
  pointwise [gram]
  simp only [hz, ← EReal.coe_mul, Spec.sum_real]
  rfl

variable {s a : FVec Ideal S512x512 .f32} {r : Fin 512 → Fin 512 → ℝ}

theorem soft_apply (hs : ∀ i j, s (ix2 i j) = ((r i j : ℝ) : EReal)) (i j : Fin 512) :
    soft s (ix2 i j) = ((Spec.soft r i j : ℝ) : EReal) := by
  have hS : 0 < ∑ k, Real.exp (r i k) := Finset.sum_pos (fun k _ => Real.exp_pos _) ⟨0, Finset.mem_univ _⟩
  pointwise [soft]
  simp only [hs, Ideal.exp_coe, Spec.sum_real]
  rw [Ideal.mul_one_div (by exact_mod_cast hS.ne'), Spec.div_real _ hS.ne']
  rfl

theorem square_apply (hs : ∀ i j, s (ix2 i j) = ((r i j : ℝ) : EReal)) (i j : Fin 512) :
    square s (ix2 i j) = ((Spec.square r i j : ℝ) : EReal) := by
  pointwise [square]
  simp only [hs, ← EReal.coe_mul, Spec.sum_real]
  rfl

theorem assoc_apply (hs : ∀ i j, s (ix2 i j) = ((r i j : ℝ) : EReal)) (i j : Fin 512) :
    assoc s (ix2 i j) = ((Spec.assoc r i j : ℝ) : EReal) := by
  pointwise [assoc]
  rw [Consts.third, hs, square_apply hs, square_apply (square_apply hs)]
  simp only [← EReal.coe_add, ← EReal.coe_mul]
  rw [Spec.assoc, mul_one_div]

theorem expSim_apply (hz : ∀ i k, z (ix2 i k) = ((c i k : ℝ) : EReal)) (i j : Fin 1024) :
    expSim (gram z) (ix2 i j) = ((Spec.heat c i j : ℝ) : EReal) := by
  pointwise [expSim]
  rw [gram_apply hz, Consts.inv_t, ← EReal.coe_mul, Ideal.exp_coe]
  rfl

theorem strong_apply (hz : ∀ i k, z (ix2 i k) = ((c i k : ℝ) : EReal)) (i : Fin 512) :
    strong z (ix2 i 0) = ((Spec.heat c ⟨i.val, by omega⟩ ⟨512 + i.val, by omega⟩ : ℝ) : EReal) := by
  pointwise [strong]
  simp only [hz, Consts.inv_t, ← EReal.coe_mul, Spec.sum_real, Ideal.exp_coe]
  rfl

theorem den_apply (hz : ∀ i k, z (ix2 i k) = ((c i k : ℝ) : EReal)) (i : Fin 1024) :
    den z (ix2 i 0) = ((Spec.den (Spec.heat c) i : ℝ) : EReal) := by
  pointwise [den]
  simp only [expSim_apply hz, hz, Consts.inv_t, ← EReal.coe_mul, Spec.sum_real, Ideal.exp_coe, ← EReal.coe_sub]
  rfl

/-- The difference of two row numbers as a signed word. -/
theorem toInt_sub (i j : Fin 512) : (BitVec.ofNat 32 i.val - BitVec.ofNat 32 j.val).toInt = (i.val : ℤ) - j.val := by
  rw [BitVec.toInt_sub, WordCmp.toInt_ofNat_of_lt (by omega), WordCmp.toInt_ofNat_of_lt (by omega)]
  exact Int.bmod_eq_of_le (by omega) (by omega)

theorem near_apply (i j : Fin 512) : near (ix2 i j) = ((1 / 2 * Spec.near i j : ℝ) : EReal) := by
  have h : (FloatOps.sitofp (F := Ideal) .f32 (IntOp.subi (BitVec.ofNat 32 i.val) (BitVec.ofNat 32 j.val)) : EReal)
      = (((i : ℝ) - (j : ℝ) : ℝ) : EReal) := by
    show ((((BitVec.ofNat 32 i.val - BitVec.ofNat 32 j.val).toInt : ℤ) : ℝ) : EReal) = _
    rw [toInt_sub]
    push_cast
    rfl
  pointwise [near, rows, cols]
  rw [h, Consts.half, Consts.eighth, zero_sub]
  simp only [← EReal.coe_mul, ← EReal.coe_neg, Ideal.exp_coe, mul_one_div]
  rfl

/-- The first place of a row's window, as the program computes it. -/
theorem start_eq : ∀ i : Fin 512, IntOp.minsi 507#32 (IntOp.maxsi 0#32 (IntOp.subi (BitVec.ofNat 32 i.val) 2#32))
    = BitVec.ofNat 32 (min 507 (i.val - 2)) := by
  decide +kernel

theorem window_apply (i j : Fin 512) :
    window (ix2 i j) = BitVec.ofBool (decide (j ∈ Spec.window i ∧ j ≠ i)) := by
  pointwise [window, rows, cols]
  rw [start_eq]
  have h : IntOp.addi (BitVec.ofNat 32 (min 507 (i.val - 2))) 5#32 = BitVec.ofNat 32 (min 507 (i.val - 2) + 5) :=
    (BitVec.ofNat_add _ _).symm
  rw [h, WordCmp.cmpi_sge_ofNat (by omega) (by omega), WordCmp.cmpi_slt_ofNat (by omega) (by omega),
    WordCmp.cmpi_ne_ofNat (by omega) (by omega), WordCmp.andi_ofBool, WordCmp.andi_ofBool]
  congr 1
  simp only [Spec.window, Finset.mem_filter, Finset.mem_univ, true_and, Bool.decide_and, ne_eq, Fin.ext_iff]

theorem num_apply {e : FVec Ideal S512x512 .f32} {p : FVec Ideal S512x1 .f32} {f : Fin 512 → Fin 512 → ℝ}
    (hs : ∀ i j, a (ix2 i j) = ((r i j : ℝ) : EReal)) (he : ∀ i j, e (ix2 i j) = ((f i j : ℝ) : EReal))
    (hp : ∀ i, p (ix2 i 0) = ((f i i : ℝ) : EReal)) (i : Fin 512) :
    num a e p (ix2 i 0) = ((Spec.num (fun i j => 1 / 2 * Spec.near i j + 1 / 2 * r i j) f i : ℝ) : EReal) := by
  have h : ∀ x : Fin 512, Scalar.select (window (ix2 i x)) ((near (ix2 i x) + Ideal.ofBits .f32 0x3F000000#32 * a (ix2 i x)) * e (ix2 i x)) (0 : EReal)
      = (((if x ∈ Spec.window i then if x = i then 0 else (1 / 2 * Spec.near i x + 1 / 2 * r i x) * f i x else 0 : ℝ)) : EReal) := by
    intro x
    rw [window_apply, WordCmp.select_decide, near_apply, Consts.half, hs, he]
    simp only [← EReal.coe_mul, ← EReal.coe_add]
    by_cases h1 : x ∈ Spec.window i <;> by_cases h2 : x = i <;> simp [h1, h2]
  pointwise [num]
  refine (congrArg₂ (· + ·) (hp i) (Finset.sum_congr rfl fun x _ => h x)).trans ?_
  rw [Spec.sum_real, ← EReal.coe_add, Finset.sum_ite_mem, Finset.univ_inter]
  rfl

theorem viewLoss_apply {p d : FVec Ideal S512x1 .f32} {n m : Fin 512 → ℝ} (hp : ∀ i, p (ix2 i 0) = ((n i : ℝ) : EReal))
    (hd : ∀ i, d (ix2 i 0) = ((m i : ℝ) : EReal)) : viewLoss p d = ∑ i, Spec.rowLoss (n i) (m i) := by
  pointwise [viewLoss]
  simp only [hp, hd, zero_sub, Finset.univ_unique, Finset.sum_singleton]
  rfl

/-- The first view's rows of the rows of both. -/
theorem sim_upper (u v : Fin 512 → Fin 128 → ℝ) (i j : Fin 512) :
    Spec.sim (Spec.cat u v) ⟨i.val, by omega⟩ ⟨j.val, by omega⟩ = Spec.sim u i j := by
  simp only [Spec.sim, Spec.cat, i.isLt, j.isLt, dite_true]

/-- The second view's rows of the rows of both. -/
theorem sim_lower (u v : Fin 512 → Fin 128 → ℝ) (i j : Fin 512) :
    Spec.sim (Spec.cat u v) ⟨512 + i.val, by omega⟩ ⟨512 + j.val, by omega⟩ = Spec.sim v i j := by
  have h : ∀ k : ℕ, ¬ 512 + k < 512 := fun k => by omega
  simp only [Spec.sim, Spec.cat, h, dite_false, Nat.add_sub_cancel_left]

/-- The exponential of a similarity is symmetric. -/
theorem heat_comm {n : ℕ} (u : Fin n → Fin 128 → ℝ) (i j : Fin n) : Spec.heat u i j = Spec.heat u j i := by
  unfold Spec.heat Spec.sim
  simp only [mul_comm (u i _)]

variable {u v : Fin 512 → Fin 128 → ℝ}

theorem num1_apply (hz : ∀ i k, z (ix2 i k) = ((Spec.cat u v i k : ℝ) : EReal)) (i : Fin 512) :
    num1 z (ix2 i 0) = ((Spec.top u v ⟨i.val, by omega⟩ : ℝ) : EReal) := by
  unfold num1
  rw [num_apply (r := Spec.assoc (Spec.soft (Spec.sim v)))
    (f := fun i j => Spec.heat (Spec.cat u v) ⟨i.val, by omega⟩ ⟨512 + j.val, by omega⟩)
    (assoc_apply (soft_apply fun i j => ?_)) (fun i j => ?_) (fun i => strong_apply hz i)]
  · rw [Spec.top, dif_pos i.isLt]; rfl
  · pointwise
    rw [gram_apply hz]
    exact congrArg _ (sim_lower u v i j)
  · pointwise
    exact expSim_apply hz _ _

theorem num2_apply (hz : ∀ i k, z (ix2 i k) = ((Spec.cat u v i k : ℝ) : EReal)) (i : Fin 512) :
    num2 z (ix2 i 0) = ((Spec.top u v ⟨512 + i.val, by omega⟩ : ℝ) : EReal) := by
  unfold num2
  rw [num_apply (r := Spec.assoc (Spec.soft (Spec.sim u)))
    (f := fun i j => Spec.heat (Spec.cat u v) ⟨512 + i.val, by omega⟩ ⟨j.val, by omega⟩)
    (assoc_apply (soft_apply fun i j => ?_)) (fun i j => ?_) (fun i => (strong_apply hz i).trans (congrArg _ (heat_comm _ _ _)))]
  · have h : ¬ 512 + i.val < 512 := by omega
    simp only [Spec.top, h, dite_false, Nat.add_sub_cancel_left]; rfl
  · pointwise
    rw [gram_apply hz]
    exact congrArg _ (sim_upper u v i j)
  · pointwise
    exact expSim_apply hz _ _

/-- A sum over the rows of both views. -/
theorem sum_rows (f : Fin 1024 → EReal) :
    ∑ i, f i = ∑ i : Fin 512, f ⟨i.val, by omega⟩ + ∑ i : Fin 512, f ⟨512 + i.val, by omega⟩ :=
  Fin.sum_univ_add (a := 512) (b := 512) f

theorem loss_apply (hz : ∀ i k, z (ix2 i k) = ((Spec.cat u v i k : ℝ) : EReal)) : loss z = ∑ i, Spec.loss u v i := by
  rw [sum_rows]
  refine congrArg₂ (· + ·) (viewLoss_apply (fun i => num1_apply hz i) fun i => ?_) (viewLoss_apply (fun i => num2_apply hz i) fun i => ?_)
  · pointwise
    exact den_apply hz _
  · pointwise
    exact den_apply hz _

theorem sampleLoss_apply (v w : Vec Ideal S1x512x128 .f32) : sampleLoss v w = ∑ i, Spec.loss (dirs v) (dirs w) i :=
  loss_apply (both_apply v w)

end Cert.KernelIdeal.Stages

end
-- ==== Proof.KernelResult.lean ====
/- The kernel's result: the mean of all rows' losses. -/
module

public import proofs.«01_k».proof.Proof.KernelRun
public import proofs.«01_k».proof.Proof.KernelValue

@[expose] public section

set_option maxRecDepth 16384

noncomputable section

namespace Cert.KernelIdeal.Stages

open Idealize.ShloMosaic Cert.KernelIdeal Cert.KernelIdeal.Gen

/-- The real unit rows of sample `b` of a view. -/
def rowsOf (x : Vec Ideal S8x512x128 .f32) (b : Fin 8) (i : Fin 512) : Fin 128 → ℝ := Spec.dir fun k => x (ix3 b i k)

/-- A load that reads sample `b` off the two arrays gives the sample's loss. -/
theorem sampleLoss_of (x0 x1 : Vec Ideal S8x512x128 .f32) (v w : Vec Ideal S1x512x128 .f32) (b : Fin 8)
    (hv : ∀ i k, v (ix3 0 i k) = x0 (ix3 b i k)) (hw : ∀ i k, w (ix3 0 i k) = x1 (ix3 b i k)) :
    sampleLoss v w = ∑ i, Spec.loss (rowsOf x0 b) (rowsOf x1 b) i := by
  have e0 : dirs v = rowsOf x0 b := funext fun i => congrArg Spec.dir (funext fun k => hv i k)
  have e1 : dirs w = rowsOf x1 b := funext fun i => congrArg Spec.dir (funext fun k => hw i k)
  rw [sampleLoss_apply, e0, e1]

/-- The one element that the body stores. -/
theorem out_apply (x0 x1 : Vec Ideal S8x512x128 .f32) (j : S1x1x1.Idx) :
    out0_2 (F := Ideal) x0 x1 j = ∑ b : Fin 8, ∑ i, Spec.loss (rowsOf x0 b) (rowsOf x1 b) i := by
  have hj : j = r0_8.emb (ix3 (0 : Fin 1) (0 : Fin 1) (0 : Fin 1)) := funext fun a => by
    fin_cases a <;> exact Subsingleton.elim (α := Fin 1) _ _
  rw [out_eq, hj, View.canon_cons_emb, Fin.sum_univ_eight]
  iterate 7 refine congrArg₂ (fun p q : EReal => p + q) ?_ ?_
  all_goals exact sampleLoss_of _ _ _ _ _ (fun i k => by pointwise) (fun i k => by pointwise)

theorem result_apply (x0 x1 : Vec Ideal S8x512x128 .f32) (j : S_.Idx) :
    RunValue.result x0 x1 j = Ideal.div (∑ b : Fin 8, ∑ i, Spec.loss (rowsOf x0 b) (rowsOf x1 b) i) (Ideal.ofBits .f32 0x46000000#32) := by
  pointwise [RunValue.result]
  simp only [out_apply, Finset.univ_unique, Finset.sum_singleton]

end Cert.KernelIdeal.Stages

end
-- ==== Proof.RefStages.lean ====
/- The reference's result in stages, each a function of arrays, and that the reference's composed term is these stages
   put together. -/
module

public import proofs.«01_k».proof.Defs
public import proofs.«01_k».proof.Proof.Gen.ReferenceIdeal.Run

@[expose] public section

set_option maxRecDepth 16384

noncomputable section

namespace Cert.ReferenceIdeal.Stages

open Idealize.ShloMosaic Cert.ReferenceIdeal Cert.ReferenceIdeal.Gen Cert.ReferenceIdeal.Value

/-- The rows of one view, each divided by the greater of its norm and a small constant. -/
def unitRows (x : FVec Ideal S8x512x128 .f32) : FVec Ideal S8x512x128 .f32 :=
  Host.divf x (broadcastInDim S8x512x128 ![0, 1, 2] bcast_S8x512x1_S8x512x128_0_1_2
    (maximumf (Host.sqrt (broadcastInDim S8x512x1 ![0, 1] bcast_S8x512_S8x512x1_0_1
        (Host.reduceAdd (mulf x x) (constant S_ .f32 0x00000000#32) reducesTo_S8x512x128_S8x512_d2 h_S_)))
      (broadcastInDim S8x512x1 ![] bcast_S_S8x512x1 (constant S_ .f32 0x2B8CBCCC#32))))

/-- All products of two rows of one view. -/
def gram (z : FVec Ideal S8x512x128 .f32) : FVec Ideal S8x512x512 .f32 :=
  Host.dotGeneral dot_S8x512x128_S8x512x128_S8x512x512_2_2_1_1_0_0 none z z

/-- The greatest entry of each row. -/
def greatest (s : FVec Ideal S8x512x512 .f32) : FVec Ideal S8x512 .f32 :=
  maximumf (broadcastInDim S8x512 ![] bcast_S_S8x512 (constant S_ .f32 0xFF800000#32))
    (Host.reduce FloatOps.maximumf s (constant S_ .f32 0xFF800000#32) reducesTo_S8x512x512_S8x512_d2 h_S_)

/-- The exponentials of each row less its greatest entry. -/
def shifted (s : FVec Ideal S8x512x512 .f32) : FVec Ideal S8x512x512 .f32 :=
  Host.exp (subf s (broadcastInDim S8x512x512 ![0, 1, 2] bcast_S8x512x1_S8x512x512_0_1_2
    (broadcastInDim S8x512x1 ![0, 1] bcast_S8x512_S8x512x1_0_1 (greatest s))))

/-- Each row divided by its sum. -/
def shares (e : FVec Ideal S8x512x512 .f32) : FVec Ideal S8x512x512 .f32 :=
  Host.divf e (broadcastInDim S8x512x512 ![0, 1, 2] bcast_S8x512x1_S8x512x512_0_1_2
    (broadcastInDim S8x512x1 ![0, 1] bcast_S8x512_S8x512x1_0_1
      (Host.reduceAdd e (constant S_ .f32 0x00000000#32) reducesTo_S8x512x512_S8x512_d2 h_S_)))

/-- The square of each sample's matrix. -/
def square (a : FVec Ideal S8x512x512 .f32) : FVec Ideal S8x512x512 .f32 :=
  Host.dotGeneral dot_S8x512x512_S8x512x512_S8x512x512_2_1_1_2_0_0 none a a

/-- The mean of each sample's matrix, its square and its fourth power. -/
def assoc (a : FVec Ideal S8x512x512 .f32) : FVec Ideal S8x512x512 .f32 :=
  Host.divf (addf (addf (addf (broadcastInDim S8x512x512 ![] bcast_S_S8x512x512 (constant S_ .f32 0x00000000#32)) a) (square a)) (square (square a)))
    (broadcastInDim S8x512x512 ![] bcast_S_S8x512x512 (constant S_ .f32 0x40400000#32))

/-- The distance between two places. -/
def apart : FVec Ideal S512x512 .f32 :=
  Host.absf (subf (broadcastInDim S512x512 ![0, 1] bcast_S512x1_S512x512_0_1 (broadcastInDim S512x1 ![0] bcast_S512_S512x1_0 (sitofp .f32 (iotaInDim S512 32 0))))
    (broadcastInDim S512x512 ![0, 1] bcast_S1x512_S512x512_0_1 (broadcastInDim S1x512 ![1] bcast_S512_S1x512_1 (sitofp .f32 (iotaInDim S512 32 0)))))

/-- The weight of nearness of two places. -/
def near : FVec Ideal S1x512x512 .f32 :=
  broadcastInDim S1x512x512 ![1, 2] bcast_S512x512_S1x512x512_1_2
    (Host.exp (Host.divf (Host.negf (mulf apart apart)) (broadcastInDim S512x512 ![] bcast_S_S512x512 (constant S_ .f32 0x41000000#32))))

/-- Half the nearness and half the association. -/
def score (a : FVec Ideal S8x512x512 .f32) : FVec Ideal S8x512x512 .f32 :=
  addf (broadcastInDim S8x512x512 ![0, 1, 2] bcast_S1x512x512_S8x512x512_0_1_2 (mulf (broadcastInDim S1x512x512 ![] bcast_S_S1x512x512 (constant S_ .f32 0x3F000000#32)) near))
    (mulf (broadcastInDim S8x512x512 ![] bcast_S_S8x512x512 (constant S_ .f32 0x3F000000#32)) (assoc a))

/-- The score matrix of one view. -/
def scoreOf (x : FVec Ideal S8x512x128 .f32) : FVec Ideal S8x512x512 .f32 :=
  score (shares (shifted (gram (unitRows x))))

/-- Both views, one below the other. -/
def both (x0 x1 : FVec Ideal S8x512x128 .f32) : FVec Ideal S8x1024x128 .f32 :=
  concatenate S8x1024x128 1 [⟨S8x512x128, x0⟩, ⟨S8x512x128, x1⟩] concatenates_S8x512x128_S8x512x128_S8x1024x128_d1

/-- The rows of both views, each divided by the greater of its norm and a small constant. -/
def unitBoth (x : FVec Ideal S8x1024x128 .f32) : FVec Ideal S8x1024x128 .f32 :=
  Host.divf x (broadcastInDim S8x1024x128 ![0, 1, 2] bcast_S8x1024x1_S8x1024x128_0_1_2
    (maximumf (Host.sqrt (broadcastInDim S8x1024x1 ![0, 1] bcast_S8x1024_S8x1024x1_0_1
        (Host.reduceAdd (mulf x x) (constant S_ .f32 0x00000000#32) reducesTo_S8x1024x128_S8x1024_d2 h_S_)))
      (broadcastInDim S8x1024x1 ![] bcast_S_S8x1024x1 (constant S_ .f32 0x2B8CBCCC#32))))

/-- The exponentials of all similarities over the temperature. -/
def expSim (z : FVec Ideal S8x1024x128 .f32) : FVec Ideal S8x1024x1024 .f32 :=
  Host.exp (Host.divf (Host.dotGeneral dot_S8x1024x128_S8x1024x128_S8x1024x1024_2_2_1_1_0_0 none z z)
    (broadcastInDim S8x1024x1024 ![] bcast_S_S8x1024x1024 (constant S_ .f32 0x3D8F5C29#32)))

/-- The pairs (i, i), as `jnp.diagonal` makes them for a view's matrix. -/
def pairs : IVec S512x2 32 :=
  have w : IVec S512 32 := select (cmpi .slt (iotaInDim S512 32 0) (broadcastInDim S512 ![] bcast_S_S512 (constantI S_ 32 0#32)))
    (addi (iotaInDim S512 32 0) (broadcastInDim S512 ![] bcast_S_S512 (constantI S_ 32 512#32))) (iotaInDim S512 32 0)
  concatenate S512x2 1 [⟨S512x1, broadcastInDim S512x1 ![0] bcast_S512_S512x1_0 w⟩, ⟨S512x1, broadcastInDim S512x1 ![0] bcast_S512_S512x1_0 w⟩] concatenates_S512x1_S512x1_S512x2_d1

/-- The pairs (i, i) for the matrix of both views. -/
def bothPairs : IVec S1024x2 32 :=
  have w : IVec S1024 32 := select (cmpi .slt (iotaInDim S1024 32 0) (broadcastInDim S1024 ![] bcast_S_S1024 (constantI S_ 32 0#32)))
    (addi (iotaInDim S1024 32 0) (broadcastInDim S1024 ![] bcast_S_S1024 (constantI S_ 32 1024#32))) (iotaInDim S1024 32 0)
  concatenate S1024x2 1 [⟨S1024x1, broadcastInDim S1024x1 ![0] bcast_S1024_S1024x1_0 w⟩, ⟨S1024x1, broadcastInDim S1024x1 ![0] bcast_S1024_S1024x1_0 w⟩] concatenates_S1024x1_S1024x1_S1024x2_d1

/-- The diagonal of each sample's matrix between the views. -/
def diag (e : FVec Ideal S8x512x512 .f32) : FVec Ideal S8x512 .f32 :=
  Host.gather gather_S8x512x512_S512x2_S8x512_0_12_n_n_12_1_811 e pairs

/-- The five greatest entries of each row. -/
def best (s : FVec Ideal S8x512x512 .f32) : FVec Ideal S8x512x5 .f32 :=
  (Host.topK S8x512x5 2 (FloatOps.cmpfTotal .gt) s sliceFits_S8x512x512_S8x512x5).1

/-- The places of the five greatest entries of each row. -/
def places (s : FVec Ideal S8x512x512 .f32) : IVec S8x512x5 32 :=
  (Host.topK S8x512x5 2 (FloatOps.cmpfTotal .gt) s sliceFits_S8x512x512_S8x512x5).2

/-- The places, a negative one counted from the end. -/
def wrapped (p : IVec S8x512x5 32) : IVec S8x512x5x1 32 :=
  shapeCast _ (select (cmpi .slt p (broadcastInDim S8x512x5 ![] bcast_S_S8x512x5 (constantI S_ 32 0#32)))
    (addi p (broadcastInDim S8x512x5 ![] bcast_S_S8x512x5 (constantI S_ 32 512#32))) p) shapeCasts_S8x512x5_S8x512x5x1

/-- Which of the places lie in the row. -/
def inside (q : IVec S8x512x5x1 32) : IVec S8x512x5 1 :=
  Host.reduce IntOp.andi (andi (cmpi .sge q (broadcastInDim S8x512x5x1 ![] bcast_S_S8x512x5x1 (constantI S_ 32 0#32)))
    (cmpi .sle q (broadcastInDim S8x512x5x1 ![0, 1, 2, 3] bcast_S1x1x1x1_S8x512x5x1_0_1_2_3 (broadcastInDim S1x1x1x1 ![3] bcast_S1_S1x1x1x1_3 (constantI S1 32 511#32)))))
    (constantI S_ 1 1#1) reducesTo_S8x512x5x1_S8x512x5_d3 h_S_

/-- The entries of a matrix at the places in each row. -/
def fetched (e : FVec Ideal S8x512x512 .f32) (q : IVec S8x512x5x1 32) : FVec Ideal S8x512x5 .f32 :=
  Host.gather gather_S8x512x512_S8x512x5x1_S8x512x5_n_2_01_01_2_3_111 e q

/-- One where a place is not the row's own, zero where it is. -/
def other (p : IVec S8x512x5 32) : FVec Ideal S8x512x5 .f32 :=
  uitofp .f32 (cmpi .ne p (broadcastInDim S8x512x5 ![0, 1, 2] bcast_S1x512x1_S8x512x5_0_1_2 (broadcastInDim S1x512x1 ![1] bcast_S512_S1x512x1_1 (iotaInDim S512 32 0))))

/-- The numerator of one view. -/
def num (s e : FVec Ideal S8x512x512 .f32) : FVec Ideal S8x512 .f32 :=
  addf (diag e) (Host.reduceAdd (mulf (mulf (best s)
      (select (inside (wrapped (places s))) (fetched e (wrapped (places s))) (broadcastInDim S8x512x5 ![] bcast_S_S8x512x5 (constant S_ .f32 0x7FC00000#32))))
      (other (places s)))
    (constant S_ .f32 0x00000000#32) reducesTo_S8x512x5_S8x512_d2 h_S_)

/-- The sum of each row of the matrix of both views, less its diagonal entry. -/
def den (e : FVec Ideal S8x1024x1024 .f32) : FVec Ideal S8x1024 .f32 :=
  subf (Host.reduceAdd e (constant S_ .f32 0x00000000#32) reducesTo_S8x1024x1024_S8x1024_d2 h_S_)
    (Host.gather gather_S8x1024x1024_S1024x2_S8x1024_0_12_n_n_12_1_811 e bothPairs)

/-- The numerators of both views. -/
def nums (s0 s1 : FVec Ideal S8x512x512 .f32) (e : FVec Ideal S8x1024x1024 .f32) : FVec Ideal S8x1024 .f32 :=
  concatenate S8x1024 1 [⟨S8x512, num s1 (extractStridedSlice S8x512x512 ![0, 0, 512] e slices_S8x1024x1024_S8x512x512_0_0_512)⟩,
    ⟨S8x512, num s0 (extractStridedSlice S8x512x512 ![0, 512, 0] e slices_S8x1024x1024_S8x512x512_0_512_0)⟩] concatenates_S8x512_S8x512_S8x1024_d1

/-- The losses of all rows. -/
def losses (n d : FVec Ideal S8x1024 .f32) : FVec Ideal S8x1024 .f32 :=
  Host.negf (Host.log (addf (Host.divf n (addf d (broadcastInDim S8x1024 ![] bcast_S_S8x1024 (constant S_ .f32 0x3089705F#32))))
    (broadcastInDim S8x1024 ![] bcast_S_S8x1024 (constant S_ .f32 0x3089705F#32))))

/-- The mean of the losses of all rows, times one. -/
def mean (l : FVec Ideal S8x1024 .f32) : FVec Ideal S_ .f32 :=
  mulf (constant S_ .f32 0x3F800000#32) (Host.divf (Host.reduceAdd l (constant S_ .f32 0x00000000#32) reducesTo_S8x1024_S_d0_1 h_S_) (constant S_ .f32 0x46000000#32))

/-- The reference's result as a function of the two views. -/
def result (x0 x1 : FVec Ideal S8x512x128 .f32) : FVec Ideal S_ .f32 :=
  have e := expSim (unitBoth (both x0 x1))
  mean (losses (nums (scoreOf x0) (scoreOf x1) e) (den e))

open Idealize.ShloMosaic.StableHlo in
theorem result_eq (V : Valuation τ sig (Elt Ideal)) :
    mulf (constant S_ .f32 0x3F800000#32) (Host.divf (Host.reduceAdd (Host.negf (Host.log (addf (res_main_v115 V) (broadcastInDim S8x1024 ![] bcast_S_S8x1024 (constant S_ .f32 0x3089705F#32))))) (constant S_ .f32 0x00000000#32) reducesTo_S8x1024_S_d0_1 h_S_) (constant S_ .f32 0x46000000#32))
      = result (V (Proc.devRef .tc main_arg0)) (V (Proc.devRef .tc main_arg1)) := by
  rfl

end Cert.ReferenceIdeal.Stages

end
-- ==== Proof.RefValue.lean ====
/- The reference's dense stages read at an index: unit rows, similarities, association, nearness and score. -/
module

public import proofs.«01_k».proof.Proof.RefStages
public import proofs.«01_k».proof.Proof.Consts
public import Idealize.ShloMosaic.Lib.Pointwise
public import Idealize.ShloMosaic.Lib.WordCmp

@[expose] public section

set_option maxRecDepth 16384

noncomputable section

namespace Cert.ReferenceIdeal.Stages

open Idealize.ShloMosaic Cert.ReferenceIdeal Cert.ReferenceIdeal.Gen

/-- The real unit rows of sample `b` of a view. -/
def rowsOf (x : FVec Ideal S8x512x128 .f32) (b : Fin 8) (i : Fin 512) : Fin 128 → ℝ := Spec.dir fun k => x (ix3 b i k)

variable (b : Fin 8)

theorem unitRows_apply (x : FVec Ideal S8x512x128 .f32) (i : Fin 512) (k : Fin 128) :
    unitRows x (ix3 b i k) = ((rowsOf x b i k : ℝ) : EReal) := by
  refine Eq.trans ?_ (Spec.unit_eq (fun k => x (ix3 b i k)) k)
  pointwise [unitRows]
  rfl

theorem unitBoth_apply (x y : FVec Ideal S8x512x128 .f32) (i : Fin 1024) (k : Fin 128) :
    unitBoth (both x y) (ix3 b i k) = ((Spec.cat (rowsOf x b) (rowsOf y b) i k : ℝ) : EReal) := by
  have h : unitBoth (both x y) (ix3 b i k) = Spec.unit (fun k => both x y (ix3 b i k)) k := by
    pointwise [unitBoth]
    rfl
  rw [h, Spec.unit_eq]
  refine congrArg _ (congrFun ?_ k)
  unfold Spec.cat rowsOf
  split <;> rename_i hi <;> refine congrArg Spec.dir (funext fun k => ?_) <;> pointwise [both] <;> simp only [hi, dite_true, dite_false]

variable {s : FVec Ideal S8x512x512 .f32} {r : Fin 8 → Fin 512 → Fin 512 → ℝ}

theorem gram_apply (x : FVec Ideal S8x512x128 .f32) (i j : Fin 512) :
    gram (unitRows x) (ix3 b i j) = ((Spec.sim (rowsOf x b) i j : ℝ) : EReal) := by
  pointwise [gram]
  simp only [unitRows_apply, ← EReal.coe_mul, Spec.sum_real]
  rfl

/-- The greatest entry of a row of real numbers is a real number. -/
theorem greatest_real (hs : ∀ b i j, s (ix3 b i j) = ((r b i j : ℝ) : EReal)) (i : Fin 512) :
    ∃ m : ℝ, greatest s (ix2 b i) = ((m : ℝ) : EReal) := by
  have e : greatest s (ix2 b i) = max (Ideal.ofBits .f32 0xFF800000#32)
      (Host.reduce (FloatOps.maximumf (F := Ideal) (φ := .f32)) s (constant S_ .f32 0xFF800000#32) reducesTo_S8x512x512_S8x512_d2 h_S_ (ix2 b i)) := by
    unfold greatest
    exact (maximumf_apply _ _ _).trans rfl
  have hd : ix3 b i (0 : Fin 512) ∈ Finset.univ.filter fun y => reducesTo_S8x512x512_S8x512_d2.drop y = ix2 b i := by
    rw [Finset.mem_filter]
    refine ⟨Finset.mem_univ _, funext fun a => ?_⟩
    match a with
    | ⟨0, _⟩ => rfl
    | ⟨1, _⟩ => rfl
  obtain ⟨y, -, h⟩ := Finset.exists_mem_eq_sup _ ⟨_, hd⟩ s
  idx_vars y
  refine ⟨r y0 y1 y2, ?_⟩
  have hc : (constant S_ .f32 0xFF800000#32 : FVec Ideal S_ .f32) (Shape.Idx.first h_S_) = (⊥ : EReal) := Consts.minus_infinity
  rw [e, Host.reduce_eq_fold, Consts.minus_infinity, max_eq_right bot_le, hc, ← hs]
  exact h

theorem soft_apply (hs : ∀ b i j, s (ix3 b i j) = ((r b i j : ℝ) : EReal)) (i j : Fin 512) :
    shares (shifted s) (ix3 b i j) = ((Spec.soft (r b) i j : ℝ) : EReal) := by
  obtain ⟨m, hm⟩ := greatest_real b hs i
  have h : ∀ j, shifted s (ix3 b i j) = ((Real.exp (r b i j) * Real.exp (-m) : ℝ) : EReal) := fun j => by
    pointwise [shifted]
    rw [hs, hm, ← EReal.coe_sub, Ideal.exp_coe, sub_eq_add_neg, Real.exp_add]
  have hS : 0 < ∑ k, Real.exp (r b i k) := Finset.sum_pos (fun k _ => Real.exp_pos _) ⟨0, Finset.mem_univ _⟩
  have hS' : ∑ k, Real.exp (r b i k) * Real.exp (-m) ≠ 0 := by
    rw [← Finset.sum_mul]; exact (mul_pos hS (Real.exp_pos _)).ne'
  pointwise [shares]
  simp only [h, Spec.sum_real]
  rw [Spec.div_real _ hS', ← Finset.sum_mul, mul_div_mul_right _ _ (Real.exp_pos _).ne']
  rfl

theorem square_apply (hs : ∀ b i j, s (ix3 b i j) = ((r b i j : ℝ) : EReal)) (b : Fin 8) (i j : Fin 512) :
    square s (ix3 b i j) = ((Spec.square (r b) i j : ℝ) : EReal) := by
  pointwise [square]
  simp only [hs, ← EReal.coe_mul, Spec.sum_real]
  rfl

theorem assoc_apply (hs : ∀ b i j, s (ix3 b i j) = ((r b i j : ℝ) : EReal)) (i j : Fin 512) :
    assoc s (ix3 b i j) = ((Spec.assoc (r b) i j : ℝ) : EReal) := by
  pointwise [assoc]
  rw [Consts.three, hs, square_apply hs, square_apply (r := fun b => Spec.square (r b)) (square_apply hs)]
  simp only [← EReal.coe_add]
  rw [Spec.div_real _ (by norm_num)]
  rfl

theorem near_apply (i j : Fin 512) : near (ix3 0 i j) = ((Spec.near i j : ℝ) : EReal) := by
  have h : ∀ i : Fin 512, (FloatOps.sitofp (F := Ideal) .f32 (BitVec.ofNat 32 i.val) : EReal) = (((i : ℝ) : ℝ) : EReal) := fun i => by
    show ((((BitVec.ofNat 32 i.val).toInt : ℤ) : ℝ) : EReal) = _
    rw [WordCmp.toInt_ofNat_of_lt (by omega)]
    rfl
  have ha : ∀ x : ℝ, (FloatOps.absf (F := Ideal) (φ := .f32) (x : EReal) : EReal) * FloatOps.absf (F := Ideal) (φ := .f32) (x : EReal) = ((x * x : ℝ) : EReal) := fun x => by
    show max (x : EReal) (-(x : EReal)) * max (x : EReal) (-(x : EReal)) = _
    rcases le_total 0 x with hx | hx
    · rw [max_eq_left (by rw [← EReal.coe_neg]; exact_mod_cast (by linarith : -x ≤ x)), ← EReal.coe_mul]
    · rw [max_eq_right (by rw [← EReal.coe_neg]; exact_mod_cast (by linarith : x ≤ -x)), ← EReal.coe_neg, ← EReal.coe_mul, neg_mul_neg]
  pointwise [near, apart]
  rw [h, h, ← EReal.coe_sub, ha, Consts.eight, ← EReal.coe_neg, Spec.div_real _ (by norm_num), Ideal.exp_coe]
  rfl

theorem scoreOf_apply (x : FVec Ideal S8x512x128 .f32) (i j : Fin 512) :
    scoreOf x (ix3 b i j) = ((Spec.score (rowsOf x b) i j : ℝ) : EReal) := by
  unfold scoreOf
  pointwise [score]
  rw [near_apply, Consts.half, assoc_apply (r := fun b => Spec.soft (Spec.sim (rowsOf x b))) b
    fun b => soft_apply (r := fun b => Spec.sim (rowsOf x b)) b fun b => gram_apply b x]
  simp only [← EReal.coe_mul, ← EReal.coe_add]
  rfl

theorem expSim_apply (x y : FVec Ideal S8x512x128 .f32) (i j : Fin 1024) :
    expSim (unitBoth (both x y)) (ix3 b i j) = ((Spec.heat (Spec.cat (rowsOf x b) (rowsOf y b)) i j : ℝ) : EReal) := by
  pointwise [expSim]
  simp only [unitBoth_apply, ← EReal.coe_mul, Spec.sum_real, Consts.temperature]
  rw [Spec.div_real _ (by norm_num), Ideal.exp_coe, div_eq_mul_inv, inv_div]
  rfl

end Cert.ReferenceIdeal.Stages

end
-- ==== Proof.Gathers.lean ====
/- What the reference's gathers read: the diagonals, and the entries at given places of each row. -/
module

public import Idealize.ShloMosaic.PureOps.ShapeOps
public import Idealize.ShloMosaic.Lib.Pointwise
public import Idealize.ShloMosaic.Lib.WordCmp

@[expose] public section

set_option maxRecDepth 16384

noncomputable section

namespace Cert.Gathers

open Idealize.ShloMosaic

/-- An index word below a row's length, read signed and kept inside the row, is itself. -/
theorem clamp {n : ℕ} (hn : n ≤ 2 ^ 31) (i : Fin n) : min (BitVec.ofNat 32 i.val).toInt.toNat (n - 1) = i.val := by
  have := i.isLt
  rw [WordCmp.toInt_ofNat_of_lt (by omega), Int.toNat_natCast]
  omega

/-- The dimensions of a gather by pairs of a row and a column, the sample kept whole. -/
def pairDims (n : ℕ) (wf : GatherDims.WF ⟨3, ![8, n, n]⟩ ⟨2, ![n, 2]⟩ ⟨2, ![8, n]⟩ [0] [1, 2] [] [1, 2] [] 1 ![8, 1, 1]) :
    GatherDims ⟨3, ![8, n, n]⟩ ⟨2, ![n, 2]⟩ ⟨2, ![8, n]⟩ where
  offsetDims := [0]
  collapsedSliceDims := [1, 2]
  operandBatchingDims := []
  startIndicesBatchingDims := []
  startIndexMap := [1, 2]
  indexVectorDim := 1
  sliceSizes := ![8, 1, 1]
  wf := wf

/-- The pairs (i, i) read the diagonal. -/
theorem gather_diagonal {α : Type} {n : ℕ} (hn : n ≤ 2 ^ 31)
    (wf : GatherDims.WF ⟨3, ![8, n, n]⟩ ⟨2, ![n, 2]⟩ ⟨2, ![8, n]⟩ [0] [1, 2] [] [1, 2] [] 1 ![8, 1, 1])
    (x : (⟨3, ![8, n, n]⟩ : Shape).Idx → α) (q : IVec ⟨2, ![n, 2]⟩ 32) (hq : ∀ (i : Fin n) (c : Fin 2), q (ix2 i c) = BitVec.ofNat 32 i.val)
    (b : Fin 8) (i : Fin n) : Host.gather (pairDims n wf) x q (ix2 b i) = x (ix3 b i i) := by
  have hs : ∀ c : Fin 2, (pairDims n wf).siIdx (ix2 b i) c = ix2 i c := fun c => funext fun a => by
    match a with
    | ⟨0, _⟩ => rfl
    | ⟨1, _⟩ => rfl
  refine congrArg x (funext fun a => Fin.ext ?_)
  match a with
  | ⟨0, _⟩ =>
    show 0 + 0 + b.val = b.val
    omega
  | ⟨1, _⟩ =>
    show min (q ((pairDims n wf).siIdx (ix2 b i) (0 : Fin 2))).toInt.toNat (n - 1) + 0 + 0 = i.val
    rw [hs, hq, clamp hn, Nat.add_zero]
  | ⟨2, _⟩ =>
    show min (q ((pairDims n wf).siIdx (ix2 b i) (1 : Fin 2))).toInt.toNat (n - 1) + 0 + 0 = i.val
    rw [hs, hq, clamp hn, Nat.add_zero]

/-- The dimensions of a gather by a column, the sample and the row in step with the places. -/
def placeDims (wf : GatherDims.WF ⟨3, ![8, 512, 512]⟩ ⟨4, ![8, 512, 5, 1]⟩ ⟨3, ![8, 512, 5]⟩ [] [2] [0, 1] [2] [0, 1] 3 ![1, 1, 1]) :
    GatherDims ⟨3, ![8, 512, 512]⟩ ⟨4, ![8, 512, 5, 1]⟩ ⟨3, ![8, 512, 5]⟩ where
  offsetDims := []
  collapsedSliceDims := [2]
  operandBatchingDims := [0, 1]
  startIndicesBatchingDims := [0, 1]
  startIndexMap := [2]
  indexVectorDim := 3
  sliceSizes := ![1, 1, 1]
  wf := wf

/-- A place reads its row's entry. -/
theorem gather_place {α : Type}
    (wf : GatherDims.WF ⟨3, ![8, 512, 512]⟩ ⟨4, ![8, 512, 5, 1]⟩ ⟨3, ![8, 512, 5]⟩ [] [2] [0, 1] [2] [0, 1] 3 ![1, 1, 1])
    (x : (⟨3, ![8, 512, 512]⟩ : Shape).Idx → α) (q : IVec ⟨4, ![8, 512, 5, 1]⟩ 32) (b : Fin 8) (i : Fin 512) (k : Fin 5) (j : Fin 512)
    (hq : q (ix4 b i k 0) = BitVec.ofNat 32 j.val) : Host.gather (placeDims wf) x q (ix3 b i k) = x (ix3 b i j) := by
  have hs : (placeDims wf).siIdx (ix3 b i k) (0 : Fin 1) = ix4 b i k 0 := funext fun a => by
    match a with
    | ⟨0, _⟩ => rfl
    | ⟨1, _⟩ => rfl
    | ⟨2, _⟩ => rfl
    | ⟨3, _⟩ => rfl
  refine congrArg x (funext fun a => Fin.ext ?_)
  match a with
  | ⟨0, _⟩ =>
    show 0 + b.val + 0 = b.val
    omega
  | ⟨1, _⟩ =>
    show 0 + i.val + 0 = i.val
    omega
  | ⟨2, _⟩ =>
    show min (q ((placeDims wf).siIdx (ix3 b i k) (0 : Fin 1))).toInt.toNat (512 - 1) + 0 + 0 = j.val
    rw [hs, hq, clamp (by omega), Nat.add_zero]

end Cert.Gathers

end
-- ==== Proof.TopK.lean ====
/- The five greatest of a row whose five given places exceed all others: a sum over the sorted row's first five places is
   the sum over the given places. -/
module

public import Idealize.ShloMosaic.Lib.SortFacts
public import Idealize.ShloMosaic.Lib.Pointwise

@[expose] public section

noncomputable section

namespace Cert.TopK

open Idealize.ShloMosaic

/-- One entry sorts before another when it is greater. -/
theorem before_eq (a b : EReal) :
    ((FloatOps.cmpfTotal (F := Ideal) (φ := .f32) .gt a b : BitVec 1) == 1#1) = decide (b < a) := by
  show (BitVec.ofBool (decide (b < a)) == 1#1) = decide (b < a)
  cases decide (b < a) <;> rfl

/-- The place that stands at each position of a row sorted downwards. -/
def order (x : Fin 512 → EReal) : Fin 512 → Fin 512 := sortedFrom fun k k' => decide (x k' < x k)

/-- No later position holds more than an earlier one. -/
theorem order_down (x : Fin 512 → EReal) (p q : Fin 512) (h : p < q) : x (order x q) ≤ x (order x p) := by
  have := sortedFrom_noInversion (fun k k' => decide (x k' < x k)) (fun k k' => decide (x k' < x k))
    (fun a b h => decide_eq_false (not_lt.mpr (of_decide_eq_true h).le)) (fun _ _ h => h)
    (fun a b c h1 h2 => decide_eq_false (not_lt.mpr ((not_lt.mp (of_decide_eq_false h1)).trans (not_lt.mp (of_decide_eq_false h2))))) p q h
  exact not_lt.mp (of_decide_eq_false this)

/-- The first five positions hold exactly the five places that exceed all others. -/
theorem order_mem (x : Fin 512 → EReal) (W : Finset (Fin 512)) (hW : W.card = 5) (hx : ∀ j ∈ W, ∀ j' ∉ W, x j' < x j)
    (p : Fin 512) : order x p ∈ W ↔ p.val < 5 := by
  have hinj : Function.Injective (order x) := sortedFrom_injective _
  have hsur : Function.Surjective (order x) := sortedFrom_surjective _
  let P : Finset (Fin 512) := Finset.univ.filter fun p => order x p ∈ W
  have hP : P.image (order x) = W := by
    ext j
    simp only [P, Finset.mem_image, Finset.mem_filter, Finset.mem_univ, true_and]
    constructor
    · rintro ⟨p, hp, rfl⟩; exact hp
    · intro hj
      obtain ⟨p, rfl⟩ := hsur j
      exact ⟨p, hj, rfl⟩
  have hcard : P.card = 5 := by rw [← hW, ← hP, Finset.card_image_of_injective _ hinj]
  have hlow : ∀ p q : Fin 512, p < q → order x q ∈ W → order x p ∈ W := fun p q h hq => by
    by_contra hp
    exact absurd (hx _ hq _ hp) (not_lt.mpr (order_down x p q h))
  have hsub : P ⊆ Finset.univ.filter fun p : Fin 512 => p.val < 5 := fun p hp => by
    simp only [P, Finset.mem_filter, Finset.mem_univ, true_and] at hp ⊢
    have h1 : Finset.Iic p ⊆ P := fun q hq => by
      simp only [P, Finset.mem_filter, Finset.mem_univ, true_and]
      rcases (Finset.mem_Iic.mp hq).lt_or_eq with h | h
      · exact hlow q p h hp
      · exact h ▸ hp
    have h2 := Finset.card_le_card h1
    rw [hcard, Fin.card_Iic] at h2
    omega
  have h5 : (Finset.univ.filter fun p : Fin 512 => p.val < 5).card = 5 := by decide +kernel
  have heq := Finset.eq_of_subset_of_card_le hsub (by rw [hcard, h5])
  have := congrArg (p ∈ ·) heq
  simpa [P] using this

/-- A sum over the first five positions is the sum over the five places. -/
theorem sum_order (x : Fin 512 → EReal) (W : Finset (Fin 512)) (hW : W.card = 5) (hx : ∀ j ∈ W, ∀ j' ∉ W, x j' < x j)
    (f : Fin 512 → ℝ) : ∑ k : Fin 5, f (order x ⟨k.val, by omega⟩) = ∑ j ∈ W, f j := by
  refine Finset.sum_bij (fun k _ => order x ⟨k.val, by omega⟩) (fun k _ => (order_mem x W hW hx _).mpr k.isLt)
    (fun a _ b _ h => ?_) (fun j hj => ?_) (fun _ _ => rfl)
  · have := congrArg Fin.val (sortedFrom_injective _ h)
    exact Fin.ext this
  · obtain ⟨p, rfl⟩ : ∃ p, order x p = j := sortedFrom_surjective _ j
    exact ⟨⟨p.val, (order_mem x W hW hx p).mp hj⟩, Finset.mem_univ _, rfl⟩

end Cert.TopK

end
-- ==== Proof.RefTop.lean ====
/- The reference's sparse stages read at an index: the diagonals, the five best places of each row, and the numerators. -/
module

public import proofs.«01_k».proof.Proof.RefStages
public import proofs.«01_k».proof.Proof.Consts
public import proofs.«01_k».proof.Proof.Gathers
public import proofs.«01_k».proof.Proof.TopK
public import Idealize.ShloMosaic.Lib.Pointwise
public import Idealize.ShloMosaic.Lib.WordCmp

@[expose] public section

set_option maxRecDepth 16384

noncomputable section

namespace Cert.ReferenceIdeal.Stages

open Idealize.ShloMosaic Cert.ReferenceIdeal Cert.ReferenceIdeal.Gen

variable (b : Fin 8)

/-- An index word is not negative, so counting negative ones from the end changes nothing. -/
theorem wrap_eq {n : ℕ} (hn : n ≤ 2 ^ 31) (i : Fin n) (m x : BitVec 32) :
    Scalar.select (IntOp.cmpi .slt (BitVec.ofNat 32 i.val) 0#32) x (BitVec.ofNat 32 i.val) = BitVec.ofNat 32 i.val := by
  have h : IntOp.cmpi .slt (BitVec.ofNat 32 i.val) 0#32 = 0#1 := by
    rw [WordCmp.cmpi_slt_ofNat_eq_zero_iff (by omega) (by omega)]
    omega
  exact WordCmp.select_of_eq_zero h _ _

theorem pairs_apply (i : Fin 512) (c : Fin 2) : pairs (ix2 i c) = BitVec.ofNat 32 i.val := by
  pointwise [pairs]
  split <;> exact wrap_eq (by omega) _ 0 _

theorem bothPairs_apply (i : Fin 1024) (c : Fin 2) : bothPairs (ix2 i c) = BitVec.ofNat 32 i.val := by
  pointwise [bothPairs]
  split <;> exact wrap_eq (by omega) _ 0 _

theorem diag_apply (e : FVec Ideal S8x512x512 .f32) (i : Fin 512) : diag e (ix2 b i) = e (ix3 b i i) :=
  Gathers.gather_diagonal (by omega) _ e pairs pairs_apply b i

theorem den_apply {e : FVec Ideal S8x1024x1024 .f32} {f : Fin 8 → Fin 1024 → Fin 1024 → ℝ}
    (he : ∀ b i j, e (ix3 b i j) = ((f b i j : ℝ) : EReal)) (i : Fin 1024) : den e (ix2 b i) = ((Spec.den (f b) i : ℝ) : EReal) := by
  have h : Host.gather gather_S8x1024x1024_S1024x2_S8x1024_0_12_n_n_12_1_811 e bothPairs (ix2 b i) = e (ix3 b i i) :=
    Gathers.gather_diagonal (by omega) _ e bothPairs bothPairs_apply b i
  pointwise [den]
  rw [h]
  simp only [he, Spec.sum_real, ← EReal.coe_sub]
  rfl

/-- The place of the `k`-th greatest entry of a row. -/
def place (s : FVec Ideal S8x512x512 .f32) (i : Fin 512) (k : Fin 5) : Fin 512 :=
  TopK.order (fun j => s (ix3 b i j)) ⟨k.val, by omega⟩

/-- The row sorted downwards, with the places beside it. -/
theorem sorted_apply (s : FVec Ideal S8x512x512 .f32) (y : IVec S8x512x512 32) (i k : Fin 512) :
    (Host.sort2 S8x512x512 2 (fun l r => FloatOps.cmpfTotal (F := Ideal) (φ := .f32) .gt l.1 r.1) s y).1 (ix3 b i k)
        = s (ix3 b i (TopK.order (fun j => s (ix3 b i j)) k))
      ∧ (Host.sort2 S8x512x512 2 (fun l r => FloatOps.cmpfTotal (F := Ideal) (φ := .f32) .gt l.1 r.1) s y).2 (ix3 b i k)
        = y (ix3 b i (TopK.order (fun j => s (ix3 b i j)) k)) := by
  have ha : ∀ k' : Fin 512, Shape.Idx.along (s := S8x512x512) (ix3 b i k) 2 k' = ix3 b i k' := fun k' => by
    funext a
    match a with
    | ⟨0, _⟩ => rfl
    | ⟨1, _⟩ => rfl
    | ⟨2, _⟩ => rfl
  have ho : sortedFrom (fun k' k'' : Fin 512 => FloatOps.cmpfTotal (F := Ideal) (φ := .f32) .gt
      (s (Shape.Idx.along (s := S8x512x512) (ix3 b i k) 2 k')) (s (Shape.Idx.along (s := S8x512x512) (ix3 b i k) 2 k'')) == 1#1) k
      = TopK.order (fun j => s (ix3 b i j)) k := by
    refine congrFun (congrArg sortedFrom (funext fun k' => funext fun k'' => ?_)) k
    rw [ha, ha]
    exact TopK.before_eq _ _
  have h2 : 2 < S8x512x512.rank := Nat.lt_succ_self 2
  unfold Host.sort2
  rw [dif_pos h2]
  constructor
  · refine congrArg s (Eq.trans ?_ (ha _))
    exact congrArg (Shape.Idx.along (s := S8x512x512) (ix3 b i k) 2) ho
  · refine congrArg y (Eq.trans ?_ (ha _))
    exact congrArg (Shape.Idx.along (s := S8x512x512) (ix3 b i k) 2) ho

theorem place_eq (s : FVec Ideal S8x512x512 .f32) (i : Fin 512) (k : Fin 5) :
    best s (ix3 b i k) = s (ix3 b i (place b s i k)) ∧ places s (ix3 b i k) = BitVec.ofNat 32 (place b s i k).val := by
  constructor
  · pointwise [best, Host.topK]
    exact (sorted_apply b s _ i ⟨k.val, by omega⟩).1
  · pointwise [places, Host.topK]
    exact (sorted_apply b s _ i ⟨k.val, by omega⟩).2

theorem wrapped_apply {p : IVec S8x512x5 32} {i : Fin 512} {k : Fin 5} {j : Fin 512}
    (hp : p (ix3 b i k) = BitVec.ofNat 32 j.val) : wrapped p (ix4 b i k 0) = BitVec.ofNat 32 j.val := by
  pointwise [wrapped]
  rw [hp]
  exact wrap_eq (by omega) j 0 _

theorem inside_apply {q : IVec S8x512x5x1 32} {i : Fin 512} {k : Fin 5} {j : Fin 512}
    (hq : q (ix4 b i k 0) = BitVec.ofNat 32 j.val) : inside q (ix3 b i k) = 1#1 := by
  pointwise [inside]
  rw [Finset.univ_unique, Finset.fold_singleton]
  have h : q (ix4 b i k default) = BitVec.ofNat 32 j.val := hq
  rw [h, WordCmp.cmpi_sge_ofNat (by omega) (by omega), WordCmp.cmpi_sle_ofNat (by omega) (by omega),
    decide_eq_true (Nat.zero_le _), decide_eq_true (by omega)]
  rfl

theorem fetched_apply {e : FVec Ideal S8x512x512 .f32} {q : IVec S8x512x5x1 32} {i : Fin 512} {k : Fin 5} {j : Fin 512}
    (hq : q (ix4 b i k 0) = BitVec.ofNat 32 j.val) : fetched e q (ix3 b i k) = e (ix3 b i j) :=
  Gathers.gather_place _ e q b i k j hq

theorem other_apply {p : IVec S8x512x5 32} {i : Fin 512} {k : Fin 5} {j : Fin 512}
    (hp : p (ix3 b i k) = BitVec.ofNat 32 j.val) : other p (ix3 b i k) = (((if j = i then 0 else 1 : ℝ)) : EReal) := by
  pointwise [other]
  rw [hp, WordCmp.cmpi_ne_ofNat (by omega) (by omega)]
  show (((BitVec.ofBool (decide (j.val ≠ i.val))).toNat : ℝ) : EReal) = _
  by_cases h : j = i
  · simp [h]
  · have h' : j.val ≠ i.val := fun e => h (Fin.ext e)
    simp [h, h']

theorem num_apply {s e : FVec Ideal S8x512x512 .f32} {r f : Fin 8 → Fin 512 → Fin 512 → ℝ}
    (hs : ∀ b i j, s (ix3 b i j) = ((r b i j : ℝ) : EReal)) (he : ∀ b i j, e (ix3 b i j) = ((f b i j : ℝ) : EReal))
    (hr : ∀ b i, ∀ j ∈ Spec.window i, ∀ j' ∉ Spec.window i, r b i j' < r b i j) (i : Fin 512) :
    num s e (ix2 b i) = ((Spec.num (r b) (f b) i : ℝ) : EReal) := by
  have h : ∀ k : Fin 5, best s (ix3 b i k) * Scalar.select (inside (wrapped (places s)) (ix3 b i k)) (fetched e (wrapped (places s)) (ix3 b i k))
        (Ideal.ofBits .f32 0x7FC00000#32) * other (places s) (ix3 b i k)
      = (((fun j => if j = i then 0 else r b i j * f b i j) (TopK.order (fun j => s (ix3 b i j)) ⟨k.val, by omega⟩) : ℝ) : EReal) := fun k => by
    obtain ⟨h1, h2⟩ := place_eq b s i k
    have h3 := wrapped_apply b h2
    rw [h1, inside_apply b h3, WordCmp.select_one, fetched_apply b h3, other_apply b h2, hs, he]
    simp only [← EReal.coe_mul, mul_ite, mul_zero, mul_one]
    rfl
  pointwise [num]
  refine (congrArg₂ (· + ·) ((diag_apply b e i).trans (he b i i)) (Finset.sum_congr rfl fun k _ => h k)).trans ?_
  have hw : ∀ j ∈ Spec.window i, ∀ j' ∉ Spec.window i, s (ix3 b i j') < s (ix3 b i j) := fun j hj j' hj' => by
    rw [hs, hs]
    exact_mod_cast hr b i j hj j' hj'
  rw [Spec.sum_real, ← EReal.coe_add]
  exact congrArg (fun t : ℝ => ((f b i i + t : ℝ) : EReal)) (TopK.sum_order (fun j => s (ix3 b i j)) (Spec.window i) (Spec.card_window i) hw
    fun j => if j = i then 0 else r b i j * f b i j)

end Cert.ReferenceIdeal.Stages

end
-- ==== Proof.RefResult.lean ====
/- The reference's result: the mean of all rows' losses. -/
module

public import proofs.«01_k».proof.Proof.RefValue
public import proofs.«01_k».proof.Proof.RefTop

@[expose] public section

set_option maxRecDepth 16384

noncomputable section

namespace Cert.ReferenceIdeal.Stages

open Idealize.ShloMosaic Cert.ReferenceIdeal Cert.ReferenceIdeal.Gen

variable (x0 x1 : FVec Ideal S8x512x128 .f32) (b : Fin 8)

/-- A view's window holds its five best places. -/
theorem rows_gap (x : FVec Ideal S8x512x128 .f32) (b : Fin 8) (i : Fin 512) :
    ∀ j ∈ Spec.window i, ∀ j' ∉ Spec.window i, Spec.score (rowsOf x b) i j' < Spec.score (rowsOf x b) i j :=
  fun j hj j' hj' => Spec.score_gap (rowsOf x b) (fun i => Spec.dir_le _) i j j' hj hj'

theorem nums_apply (i : Fin 1024) :
    nums (scoreOf x0) (scoreOf x1) (expSim (unitBoth (both x0 x1))) (ix2 b i) = ((Spec.top (rowsOf x0 b) (rowsOf x1 b) i : ℝ) : EReal) := by
  pointwise [nums]
  unfold Spec.top
  split
  · refine num_apply (r := fun b => Spec.score (rowsOf x1 b))
      (f := fun b i j => Spec.heat (Spec.cat (rowsOf x0 b) (rowsOf x1 b)) ⟨i.val, by omega⟩ ⟨512 + j.val, by omega⟩) b
      (fun b => scoreOf_apply b x1) (fun b i j => ?_) (rows_gap x1) _
    pointwise
    exact expSim_apply b x0 x1 _ _
  · refine num_apply (r := fun b => Spec.score (rowsOf x0 b))
      (f := fun b i j => Spec.heat (Spec.cat (rowsOf x0 b) (rowsOf x1 b)) ⟨512 + i.val, by omega⟩ ⟨j.val, by omega⟩) b
      (fun b => scoreOf_apply b x0) (fun b i j => ?_) (rows_gap x0) _
    pointwise
    exact expSim_apply b x0 x1 _ _

theorem losses_apply (i : Fin 1024) :
    losses (nums (scoreOf x0) (scoreOf x1) (expSim (unitBoth (both x0 x1)))) (den (expSim (unitBoth (both x0 x1)))) (ix2 b i)
      = Spec.loss (rowsOf x0 b) (rowsOf x1 b) i := by
  pointwise [losses]
  rw [nums_apply, den_apply (f := fun b => Spec.heat (Spec.cat (rowsOf x0 b) (rowsOf x1 b))) b fun b => expSim_apply b x0 x1]
  rfl

theorem result_apply (j : S_.Idx) :
    result x0 x1 j = Ideal.div (∑ b : Fin 8, ∑ i, Spec.loss (rowsOf x0 b) (rowsOf x1 b) i) (Ideal.ofBits .f32 0x46000000#32) := by
  unfold result
  pointwise [mean]
  simp only [losses_apply]

end Cert.ReferenceIdeal.Stages

end
-- ==== Proof.Algebraic.lean ====
/- The kernel and the reference leave the same result. -/
module

public import proofs.«01_k».proof.Proof.KernelResult
public import proofs.«01_k».proof.Proof.RefResult

@[expose] public section

set_option maxRecDepth 16384

noncomputable section

namespace Cert.Proof

open Idealize.ShloMosaic Idealize.ShloMosaic.TcCoe Idealize.SL.Sem

/-- The two results are one function of the two views. -/
theorem results_eq (x0 x1 : Vec Ideal KernelIdeal.S8x512x128 .f32) :
    (ReferenceIdeal.Stages.result x0 x1 : FVec Ideal ReferenceIdeal.S_ .f32) = KernelIdeal.RunValue.result x0 x1 :=
  funext fun j => (ReferenceIdeal.Stages.result_apply x0 x1 j).trans (KernelIdeal.Stages.result_apply x0 x1 j).symm

theorem algebraic : algebraic_KernelIdeal_ReferenceIdeal (hKernelIdeal := Cert.KernelIdeal.Gen.facts)
    (hReferenceIdeal := Cert.ReferenceIdeal.Gen.facts) := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [ReferenceIdeal.Stages.result_eq]
  refine Eq.trans ?_ (results_eq _ _)
  exact congrArg₂ ReferenceIdeal.Stages.result (hagree c).1 (hagree c).2

end Cert.Proof

end
-- ==== Proof.lean ====
/- The proof of the certificate's claims. The three frames and the named constants are in Proof/Frames.lean,
   the equality of the two results in Proof/Algebraic.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    frame_kernel, frame_kernelIdeal, frame_referenceIdeal, named_consts, algebraic⟩

end Cert.Proof

end
